-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x32 : Shape := ⟨2, ![16384, 32]⟩
abbrev S8192x32 : Shape := ⟨2, ![8192, 32]⟩
abbrev S10x32 : Shape := ⟨2, ![10, 32]⟩
abbrev S10 : Shape := ⟨1, ![10]⟩
abbrev S1x10 : Shape := ⟨2, ![1, 10]⟩
abbrev S16384 : Shape := ⟨1, ![16384]⟩
abbrev S8192x128 : Shape := ⟨2, ![8192, 128]⟩
abbrev S1024x32 : Shape := ⟨2, ![1024, 32]⟩
abbrev S1024 : Shape := ⟨1, ![1024]⟩
abbrev S1024x8192 : Shape := ⟨2, ![1024, 8192]⟩
abbrev S1024x1 : Shape := ⟨2, ![1024, 1]⟩
abbrev S8192x10 : Shape := ⟨2, ![8192, 10]⟩
abbrev S8192x118 : Shape := ⟨2, ![8192, 118]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S16384x10 : Shape := ⟨2, ![16384, 10]⟩

abbrev nBuf : Table → Nat
  | .hbm => 10
  | .local .tc .vmem => 9
  | .local .scVector .vmem => 2
  | _ => 0

abbrev bufTy : (tb : Table) → Fin (nBuf tb) → BufTy
  | .hbm, ⟨0, _⟩ => ⟨S16384x32, .f32⟩
  | .hbm, ⟨1, _⟩ => ⟨S8192x32, .f32⟩
  | .hbm, ⟨2, _⟩ => ⟨S8192x32, .f32⟩
  | .hbm, ⟨3, _⟩ => ⟨S10x32, .f32⟩
  | .hbm, ⟨4, _⟩ => ⟨S10, .f32⟩
  | .hbm, ⟨5, _⟩ => ⟨S1x10, .f32⟩
  | .hbm, ⟨6, _⟩ => ⟨S16384, .i32⟩
  | .hbm, ⟨7, _⟩ => ⟨S8192x128, .f32⟩
  | .hbm, ⟨8, _⟩ => ⟨S16384x128, .f32⟩
  | .hbm, ⟨9, _⟩ => ⟨S16384x10, .f32⟩
  | .local .tc .vmem, ⟨0, _⟩ => ⟨S1024x32, .f32⟩
  | .local .tc .vmem, ⟨1, _⟩ => ⟨S1024x32, .f32⟩
  | .local .tc .vmem, ⟨2, _⟩ => ⟨S8192x32, .f32⟩
  | .local .tc .vmem, ⟨3, _⟩ => ⟨S8192x32, .f32⟩
  | .local .tc .vmem, ⟨4, _⟩ => ⟨S10x32, .f32⟩
  | .local .tc .vmem, ⟨5, _⟩ => ⟨S1x10, .f32⟩
  | .local .tc .vmem, ⟨6, _⟩ => ⟨S1024, .i32⟩
  | .local .tc .vmem, ⟨7, _⟩ => ⟨S1024, .i32⟩
  | .local .tc .vmem, ⟨8, _⟩ => ⟨S8192x128, .f32⟩
  | .local .scVector .vmem, ⟨0, _⟩ => ⟨S512, .i32⟩
  | .local .scVector .vmem, ⟨1, _⟩ => ⟨S512x128, .f32⟩
  | _, _ => ⟨S16384x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v1_1_scv : Ref sig .scVector := ⟨.hbm, 7, rfl⟩
abbrev main_v1_0_scv : Ref sig .scVector := ⟨.hbm, 6, rfl⟩
abbrev main_v2_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x32 : Shape := ⟨2, ![16384, 32]⟩
abbrev S8192x32 : Shape := ⟨2, ![8192, 32]⟩
abbrev S10x32 : Shape := ⟨2, ![10, 32]⟩
abbrev S10 : Shape := ⟨1, ![10]⟩
abbrev S32x8192 : Shape := ⟨2, ![32, 8192]⟩
abbrev S16384x8192 : Shape := ⟨2, ![16384, 8192]⟩
abbrev S_ : Shape := ⟨0, ![]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S32x10 : Shape := ⟨2, ![32, 10]⟩
abbrev S16384x10 : Shape := ⟨2, ![16384, 10]⟩
abbrev S1x10 : Shape := ⟨2, ![1, 10]⟩

abbrev nBuf : Space → Nat
  | .hbm => 40
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S8192x32, .f32⟩
  | .hbm, ⟨2, _⟩ => ⟨S8192x32, .f32⟩
  | .hbm, ⟨3, _⟩ => ⟨S10x32, .f32⟩
  | .hbm, ⟨4, _⟩ => ⟨S10, .f32⟩
  | .hbm, ⟨5, _⟩ => ⟨S32x8192, .f32⟩
  | .hbm, ⟨6, _⟩ => ⟨S16384x8192, .f32⟩
  | .hbm, ⟨7, _⟩ => ⟨S16384x8192, .i32⟩
  | .hbm, ⟨8, _⟩ => ⟨S_, .f32⟩
  | .hbm, ⟨9, _⟩ => ⟨S_, .i32⟩
  | .hbm, ⟨10, _⟩ => ⟨S16384, .f32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S1x1, .i32⟩
  | .hbm, ⟨25, _⟩ => ⟨S16384x1, .i32⟩
  | .hbm, ⟨26, _⟩ => ⟨S16384x1, .i1⟩
  | .hbm, ⟨27, _⟩ => ⟨S16384x1, .i1⟩
  | .hbm, ⟨28, _⟩ => ⟨S_, .i1⟩
  | .hbm, ⟨29, _⟩ => ⟨S16384, .i1⟩
  | .hbm, ⟨30, _⟩ => ⟨S16384x32, .f32⟩
  | .hbm, ⟨31, _⟩ => ⟨S16384x32, .i1⟩
  | .hbm, ⟨32, _⟩ => ⟨S_, .f32⟩
  | .hbm, ⟨33, _⟩ => ⟨S16384x32, .f32⟩
  | .hbm, ⟨34, _⟩ => ⟨S16384x32, .f32⟩
  | .hbm, ⟨35, _⟩ => ⟨S32x10, .f32⟩
  | .hbm, ⟨36, _⟩ => ⟨S16384x10, .f32⟩
  | .hbm, ⟨37, _⟩ => ⟨S1x10, .f32⟩
  | .hbm, ⟨38, _⟩ => ⟨S16384x10, .f32⟩
  | .hbm, ⟨39, _⟩ => ⟨S16384x10, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v2 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩

abbrev nD : Nat := 1
abbrev τ : Topo := Topo.v7x

variable {F : FTy → Type} [FloatOps F]
-- ==== Proof.Setup.lean ====
/-
  The kernel's program as its launch sees it, and the ghost state the proof runs over.

  The program is one TensorCore region (the distances' first maximum of every row of `x`, and once the decoded
  codebook `values · W_decᵀ + b_dec`, padded to 128 lanes) followed by one call on the vector subcores of both
  SparseCores (each of the 32 subcores gathers 512 rows of the decoded codebook). The proof's ghost state has a part
  for the call's handshakes, a part for the region's staging buffers, and a part for the subcores' own copies.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionsLoop
public import Idealize.ShloMosaic.Lib.Pipeline.Value
public import Idealize.ShloMosaic.Lib.Pipeline.TableIdle
public import Idealize.ShloMosaic.Lib.Pipeline.FrameBody
public import Idealize.ShloMosaic.Lib.VecWindow
public import Idealize.ShloMosaic.Lib.Tactic
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

/-- The handshakes' part. -/
abbrev UH : Type := URounds (GSem nD τ sig) ℕ
/-- The whole: the handshakes', the region's, the copies'. -/
abbrev UU : Type := UH × (UR sig nD τ × Counters)

local notation "𝕄" => MT nD τ sig (HIx 1) (Elt F) ℕ UU ℕ

/-- The whole of the proof's ghost state, inside the machine's. -/
abbrev uE : UEmb UU (MT nD τ sig (HIx 1) (Elt F) ℕ UU ℕ) :=
  uEmb (nD := nD) (sig := sig) (Ix := HIx 1) (Val := Elt F) (Name := ℕ) (U := UU) (Lvl := ℕ)

/-- Where the handshakes' part lies. -/
def EH : Emb UH (MT nD τ sig (HIx 1) (Elt F) ℕ UU ℕ) := (Emb.inl : Emb UH UU).trans uE.toEmb
/-- Where the region's part lies. -/
def EP : Emb (UR sig nD τ) (MT nD τ sig (HIx 1) (Elt F) ℕ UU ℕ) :=
  ((Emb.inl : Emb (UR sig nD τ) (UR sig nD τ × Counters)).trans (Emb.inr : Emb (UR sig nD τ × Counters) UU)).trans uE.toEmb

instance EH_landsIn : (EH (F := F)).LandsIn (upEmb : UEmb _ 𝕄) := by unfold EH; infer_instance
instance EP_landsIn : (EP (F := F)).LandsIn (upEmb : UEmb _ 𝕄) := by unfold EP; infer_instance

/-- The launch's ghost element deals the handshakes' part and the region's. -/
theorem ownU_deal (a : UH) (b : UR sig nD τ) :
    (ownU ((a, (b, 1)) : UU) : sProp 𝕄) ⊢ iprop(BI.own (EH a) ∗ BI.own (EP b)) :=
  BI.own_op_elim ((uE (F := F)).toEmb.op_of_mem (Prod.mk_mem_op (URA.mem_op_one a) (URA.mem_one_op (b, (1 : Counters)))))

end Cert.Proof

end
-- ==== Proof.Region.lean ====
/-
  The TensorCore region: sixteen grid points, each of which leaves the index of the first largest similarity of 1024
  rows of `x`; the first point also leaves the decoded codebook, which the other points keep and the last writes back.

  `bodyRun` runs the body once and for all over whole staging buffers; `dat` names what each staging buffer holds
  after each point as a function of the arrays at the region's entry; `region` is the region between the core's state
  before it and after it, the SparseCore call's debts held through it.
-/
module

public import proofs.«01_k».proof.Proof.Setup

@[expose] public section

noncomputable section

namespace Cert.Proof

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## The body over whole staging buffers -/

/-- One store over the whole of a view leaves its payload. -/
theorem read_whole_store {sp : Space} {s : Shape} {e : EltTy} (v : View sig .tc sp s e) (f : v.ty.Contents (Elt F))
    {off : Fin s.rank → ℕ} (inb : ∀ a, off a + s.size a ≤ s.size a) (w : s.Idx → Elt F e) :
    v.read (Elt F) (v.writes (Elt F) f [⟨Rect.unit off s.size inb, w⟩]) = w :=
  funext fun y => View.read_writes_cons_hit v f (Rect.unit off s.size inb) w [] y y (Rect.emb_unit_full inb y)

set_option maxHeartbeats 1000000 in
/-- The body on buffers held whole: it leaves its inputs as they are, the index block the payload of the two loaded
    operands, and the codebook block its payload when the point's condition holds and what it was when not. -/
theorem body_runs (c : Dev nD) (E : Set ℕ) (i : grid0.Coords)
    (M1 : Memref sig .tc .vmem S1024x32 .f32) (h1 : M1.IsWhole) (M2 : Memref sig .tc .vmem S8192x32 .f32) (h2 : M2.IsWhole)
    (M3 : Memref sig .tc .vmem S8192x32 .f32) (h3 : M3.IsWhole) (M4 : Memref sig .tc .vmem S10x32 .f32) (h4 : M4.IsWhole)
    (M5 : Memref sig .tc .vmem S1x10 .f32) (h5 : M5.IsWhole) (M6 : Memref sig .tc .vmem S1024 .i32) (h6 : M6.IsWhole)
    (M7 : Memref sig .tc .vmem S8192x128 .f32) (h7 : M7.IsWhole)
    (X1 : S1024x32.Idx → Elt F .f32) (X2 X3 : S8192x32.Idx → Elt F .f32) (X4 : S10x32.Idx → Elt F .f32)
    (X5 : S1x10.Idx → Elt F .f32) (X6 : S1024.Idx → Elt F .i32) (X7 : S8192x128.Idx → Elt F .f32) (Q : PUnit → sProp 𝕄) :
    iprop((owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare X5 ∗ owns (c : Thread nD τ) M6 fullShare X6
          ∗ owns (c : Thread nD τ) M7 fullShare X7)
        ∗ (iprop(owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare X5
          ∗ owns (c : Thread nD τ) M6 fullShare (k0_pay1 X1 X2)
          ∗ owns (c : Thread nD τ) M7 fullShare (if k0_cond1 i = 1#1 then k0_pay2 X3 X4 X5 else X7)) -∗ Q ⟨⟩))
      ⊢ wp frame (wpE (defs₀ (F := F)) 𝒱₀ c none) E (cc0__argmax_decode_kernel i M1 h1 M2 h2 M3 h3 M4 h4 M5 h5 M6 h6 M7 h7) Q := by
  simp only [cc0__argmax_decode_kernel_eq_skeleton]; unfold cc0__argmax_decode_kernel_skel
  unfold owns
  rw [h1.set_eq_univ, h2.set_eq_univ, h3.set_eq_univ, h4.set_eq_univ, h5.set_eq_univ, h6.set_eq_univ, h7.set_eq_univ]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  subst e1 e2 e3 e4 e5 e6 e7
  by_cases hc : k0_cond1 i = 1#1
  · simp only [dif_pos hc, if_pos hc]
    sl_exec!
    sl_step
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]
    · iexists _; isplitr; swap; (· iexact H6); ipureintro
      refine (read_whole_store M6.view _ inb_S1024_S1024_0 _).trans ?_
      exact congrArg₂ k0_pay1 (View.readAt_full M1.view f1 inb_S1024x32_S1024x32_0_0) (View.readAt_full M2.view f2 inb_S8192x32_S8192x32_0_0)
    · iexists _; isplitr; swap; (· iexact H7); ipureintro
      refine (read_whole_store M7.view _ inb_S8192x128_S8192x128_0_0 _).trans ?_
      rw [← View.readAt_full M3.view f3 inb_S8192x32_S8192x32_0_0, ← View.readAt_full M4.view f4 inb_S10x32_S10x32_0_0,
        ← View.readAt_full M5.view f5 inb_S1x10_S1x10_0_0]
  · simp only [dif_neg hc, if_neg hc]
    sl_exec!
    sl_step
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]
    · iexists _; isplitr; swap; (· iexact H6); ipureintro
      refine (read_whole_store M6.view _ inb_S1024_S1024_0 _).trans ?_
      exact congrArg₂ k0_pay1 (View.readAt_full M1.view f1 inb_S1024x32_S1024x32_0_0) (View.readAt_full M2.view f2 inb_S8192x32_S8192x32_0_0)
    · iexists f7; isplitr; · ipureintro; rfl
      iexact H7

/-! ## What the staging buffers hold -/

variable (V : (c : Dev nD) → (b : Ref sig .tc) → Buf (Elt F) ((c : Thread nD τ).loc b))

/-- The blocks of the five inputs at point `t`, read off the arrays at entry: 1024 rows of `x`, -/
abbrev blk0 (c : Dev nD) (t : Fin cfg0.N) : S1024x32.Idx → Elt F .f32 := ((cfg0.win 0).blk t).view.read (Elt F) (V c main_arg0)
/-- the keys, -/
abbrev blk1 (c : Dev nD) (t : Fin cfg0.N) : S8192x32.Idx → Elt F .f32 := ((cfg0.win 1).blk t).view.read (Elt F) (V c main_arg1)
/-- the values, -/
abbrev blk2 (c : Dev nD) (t : Fin cfg0.N) : S8192x32.Idx → Elt F .f32 := ((cfg0.win 2).blk t).view.read (Elt F) (V c main_arg2)
/-- the decoder's weights, -/
abbrev blk3 (c : Dev nD) (t : Fin cfg0.N) : S10x32.Idx → Elt F .f32 := ((cfg0.win 3).blk t).view.read (Elt F) (V c main_arg3)
/-- and its bias as a row. -/
abbrev blk4 (c : Dev nD) (t : Fin cfg0.N) : S1x10.Idx → Elt F .f32 := ((cfg0.win 4).blk t).view.read (Elt F) (V c main_v0)

/-- The decoded codebook, as the first point stores it. -/
def codebook (c : Dev nD) : S8192x128.Idx → Elt F .f32 :=
  k0_pay2 (blk2 V c t0_0) (blk3 V c t0_0) (blk4 V c t0_0)

/-- The index block point `t` stores. -/
@[irreducible] def nearest (c : Dev nD) (t : Fin cfg0.N) : S1024.Idx → Elt F .i32 :=
  k0_pay1 (blk0 V c t) (blk1 V c t)

/-- The pairs the core may have recorded: those no deeper than the region's own. -/
def rec0 (c : Dev nD) : Set (SemLoc sig × HIx 1) := {p | (K (F := F)).lev ((c : Thread nD τ), p.1) p.2 ≤ 0}

/-- The region's proof data at the entry arrays `V`: inputs stay as fetched; the index block of every point and the
    codebook are named; the debts of the SparseCore call are held unchanged. -/
def dat (c : Dev nD) : Dat τ (Elt F) (HIx 1) ℕ UU ℕ cfg0 c where
  A w := V c (Pipeline.arrRef spec0 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => nearest V c t
    | ⟨6, _⟩ => codebook V c
  Φ _ := BI.emp
  q _ := fullShare
  owed _ := (K (F := F)).Otc c 0
  recorded _ := rec0 (F := F) c

theorem after_5 (c : Dev nD) (t : Fin cfg0.N) : (dat V c).after 5 t = k0_pay1 (blk0 V c t) (blk1 V c t) := by
  have h : (dat V c).after 5 t = nearest V c t := rfl
  rw [h]
  unfold nearest
  rfl

theorem before_0 (c : Dev nD) (t : Fin cfg0.N) (d) : (dat V c).before 0 t d = blk0 V c t :=
  (dat V c).before_in_eq_fetched 0 rfl (fun _ => rfl) (fun _ _ _ => rfl) (fun _ => rfl) t d
theorem before_1 (c : Dev nD) (t : Fin cfg0.N) (d) : (dat V c).before 1 t d = blk1 V c t :=
  (dat V c).before_in_eq_fetched 1 rfl (fun _ => rfl) (fun _ _ _ => rfl) (fun _ => rfl) t d
theorem before_2 (c : Dev nD) (t : Fin cfg0.N) (d) : (dat V c).before 2 t d = blk2 V c t :=
  (dat V c).before_in_eq_fetched 2 rfl (fun _ => rfl) (fun _ _ _ => rfl) (fun _ => rfl) t d
theorem before_3 (c : Dev nD) (t : Fin cfg0.N) (d) : (dat V c).before 3 t d = blk3 V c t :=
  (dat V c).before_in_eq_fetched 3 rfl (fun _ => rfl) (fun _ _ _ => rfl) (fun _ => rfl) t d
theorem before_4 (c : Dev nD) (t : Fin cfg0.N) (d) : (dat V c).before 4 t d = blk4 V c t :=
  (dat V c).before_in_eq_fetched 4 rfl (fun _ => rfl) (fun _ _ _ => rfl) (fun _ => rfl) t d

/-- After the first point the codebook's buffer holds the codebook. -/
theorem before_6 (c : Dev nD) (t : Fin cfg0.N) (ht : t ≠ t0_0) (d) : (dat V c).before 6 t d = codebook V c := by
  rw [(dat V c).before_out_traj 6 rfl (fun _ _ => rfl) (fun _ _ _ _ => rfl) t.val t rfl d, if_neg]
  · rfl
  · rcases fin_N0 t with rfl | rfl | rfl | rfl | rfl | rfl | rfl | rfl | rfl | rfl | rfl | rfl | rfl | rfl | rfl | rfl
    · exact absurd rfl ht
    all_goals decide +kernel

/-- The condition is the first point. -/
theorem cond_iff (t : Fin cfg0.N) : k0_cond1 (grid0.coords t) = 1#1 ↔ t = t0_0 := by
  rcases fin_N0 t with rfl | rfl | rfl | rfl | rfl | rfl | rfl | rfl | rfl | rfl | rfl | rfl | rfl | rfl | rfl | rfl <;>
    decide +kernel

/-- What the body leaves of the codebook's buffer is what the point is to leave: the codebook at the first point, at
    the others what was there, which the last point is to leave at the codebook. -/
theorem leaves_6 (c : Dev nD) (t : Fin cfg0.N) (d) :
    (owns (c : Thread nD τ) (stage0_6 (cfg0.slots t 6)) fullShare
        (if k0_cond1 (grid0.coords t) = 1#1 then k0_pay2 (blk2 V c t) (blk3 V c t) (blk4 V c t) else (dat V c).before 6 t d) : sProp 𝕄)
      ⊢ (match idle0 6 (grid0.coords t) with
        | true =>
          match (win0 6).flush t with
          | false => iprop(∃ d, owns (c : Thread nD τ) (stage0_6 (cfg0.slots t 6)) fullShare ((dat V c).before 6 t d))
          | true => owns (c : Thread nD τ) (stage0_6 (cfg0.slots t 6)) fullShare ((dat V c).after 6 t)
        | false => owns (c : Thread nD τ) (stage0_6 (cfg0.slots t 6)) fullShare ((dat V c).after 6 t) : sProp 𝕄) := by
  by_cases ht : t = t0_0
  · subst ht
    rw [if_pos ((cond_iff t0_0).mpr rfl), show idle0 6 (grid0.coords t0_0) = false by decide +kernel]
    exact BI.Entails.refl _
  · have hc : ¬k0_cond1 (grid0.coords t) = 1#1 := fun h => ht ((cond_iff t).mp h)
    rw [if_neg hc, show idle0 6 (grid0.coords t) = true from by
      show (!(k0_cond1 (grid0.coords t) == 1#1)) = true
      rw [beq_eq_false_iff_ne.mpr hc]; rfl]
    cases (win0 6).flush t
    · iintro H; iexists d; iexact H
    · rw [before_6 V c t ht d]; exact BI.Entails.refl _

set_option maxRecDepth 16384 in
/-- The region's body obligation: every point's run hands back the buffers at what the proof data names. -/
theorem body_obligation (c : Dev nD) : BodyObligation (dat V c) (defs₀ (F := F)) 𝒱₀ (none : HIx 1) Set.univ := fun t => by
  rw [bigSep_W0, bigSep_W0]
  simp only
  rw [show (dat V c).Φ t.succ = (dat V c).Φ t.castSucc from rfl,
    show (dat V c).owesAt none t.succ = (dat V c).owesAt none t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩⟩
  rw [before_0 V c t d0, before_1 V c t d1, before_2 V c t d2, before_3 V c t d3, before_4 V c t d4]
  iapply (body_runs (F := F) c Set.univ (grid0.coords t) (stage0_0 (cfg0.slots t 0)) (hstage0_0 ((cfg0.slots t 0).cast nbuf0_0))
    (stage0_1 (cfg0.slots t 1)) (hstage0_1 ((cfg0.slots t 1).cast nbuf0_1)) (stage0_2 (cfg0.slots t 2)) (hstage0_2 ((cfg0.slots t 2).cast nbuf0_2))
    (stage0_3 (cfg0.slots t 3)) (hstage0_3 ((cfg0.slots t 3).cast nbuf0_3)) (stage0_4 (cfg0.slots t 4)) (hstage0_4 ((cfg0.slots t 4).cast nbuf0_4))
    (stage0_5 (cfg0.slots t 5)) (hstage0_5 ((cfg0.slots t 5).cast nbuf0_5)) (stage0_6 (cfg0.slots t 6)) (hstage0_6 ((cfg0.slots t 6).cast nbuf0_6))
    (blk0 V c t) (blk1 V c t) (blk2 V c t) (blk3 V c t) (blk4 V c t) _ ((dat V c).before 6 t d6) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · rw [after_5]; iexact H5
  iapply (leaves_6 V c t d6) $$ H6

/-! ## The region, entered from `V` -/

abbrev adm : (p : Fin 1) → (pcfgs (F := F) p).Adm := fun p => (cfgs p).toPCfg_adm

/-- The program's one region's proof data. -/
abbrev pdats : (p : Fin 1) → (c : Dev nD) → Dat τ (Elt F) (HIx 1) ℕ UU ℕ (Pipeline.pin (pcfgs (F := F)) adm p) c := fun _ c => dat V c

/-- No debt of the SparseCore call is at the region's own index. -/
theorem Otc_none (c : Dev nD) (g : GSem nD τ sig) : (K (F := F)).Otc c 0 g none = 0 := by
  by_contra h
  have := SparseCore.Cfg.lev_of_Otc_pos (K := K (F := F)) (Nat.pos_of_ne_zero h)
  rw [SparseCore.Cfg.lev_none] at this; omega

/-- The buffers the region writes, and what it leaves in them. -/
def idxOut (c : Dev nD) : Buf (Elt F) ((c : Thread nD τ).loc main_v1_0) := (dat V c).arrAt 5 cfg0.N
def tabOut (c : Dev nD) : Buf (Elt F) ((c : Thread nD τ).loc main_v1_1) := (dat V c).arrAt 6 cfg0.N

variable (Vp : (c : Dev nD) → (b : Ref sig .tc) → Buf (Elt F) ((c : Thread nD τ).loc b))

set_option backward.isDefEq.respectTransparency.types false in
/-- The region from the core's unscoped buffers at `V` to the same at `Vp`, which is `V` but at the two results; the
    SparseCore call's debts go through it. -/
def region (h5 : ∀ c, Vp c main_v1_0 = idxOut V c) (h6 : ∀ c, Vp c main_v1_1 = tabOut V c)
    (hne : ∀ c (b : Ref sig .tc), b ≠ main_v1_0 → b ≠ main_v1_1 → Vp c b = V c b) :
    Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ 0 c fun w s t => (K (F := F)).mayWait_none _ (Otc_none (F := F) c)
  pre c := iprop(unscopedBufs c (V c) ∗ ∃ W, ⌜(K (F := F)).WBelow (T c) W 0⌝ ∗ owes (T c) ((K (F := F)).Otc c 0) W)
  post c := iprop(unscopedBufs c (Vp c) ∗ ∃ W, ⌜(K (F := F)).WBelow (T c) W 0⌝ ∗ owes (T c) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [scopedRest0_eq]
    iintro ⟨-, -, -⟩; iempintro
  hout c := by
    rw [Pipeline.ownSems0_none, scopedRest0_eq]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_arg0 (by decide) (by decide)).symm
        · exact ((pdats V 0 c).arrAt_in 1 rfl _).trans (hne c main_arg1 (by decide) (by decide)).symm
        · exact ((pdats V 0 c).arrAt_in 2 rfl _).trans (hne c main_arg2 (by decide) (by decide)).symm
        · exact ((pdats V 0 c).arrAt_in 3 rfl _).trans (hne c main_arg3 (by decide) (by decide)).symm
        · exact ((pdats V 0 c).arrAt_in 4 rfl _).trans (hne c main_v0 (by decide) (by decide)).symm
        · exact (h5 c).symm
        · exact (h6 c).symm)
      (fun b hb => hne c b (fun h => hb (h ▸ Finset.mem_image.mpr ⟨5, Finset.mem_univ _, rfl⟩)) (fun h => hb (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro; intro p hp
      rcases hW hp with h | ⟨w, s, rfl⟩
      · exact h
      · exact le_of_eq (SparseCore.Cfg.lev_none (K (F := F)) _)
    iexact HO

end Cert.Proof

end
-- ==== Proof.Arrays.lean ====
/-
  What the TensorCore region leaves in its two result arrays, at any reading of the floats.

  `tabOut_eq`: the table is the decoded codebook. `idxOut_apply`: word `r` of the index list is the one grid point
  `r / 1024` stores at lane `r % 1024`. `idxOut_lt`: every word of the list names a row of the table, whatever the
  similarities are: each is the least of 8192 words that are all below 8192.
-/
module

public import proofs.«01_k».proof.Proof.Region
public import Idealize.ShloMosaic.Lib.Pipeline.ValueKit
public import Idealize.ShloMosaic.Lib.ValueIdx

@[expose] public section

noncomputable section

namespace Cert.Proof

open Cert.KernelIdeal Cert.KernelIdeal.Gen

open Idealize.ShloMosaic
open Idealize.ShloMosaic.TcCoe
open Idealize.ShloMosaic.ValueIdx
open Idealize.ShloMosaic.SparseCore.Cfg (HIx)
open Idealize.ShloMosaic.Pipeline

variable {F : FTy → Type} [FloatOps F]

/-! ## The least word of a finite set -/

/-- The lesser of two words is one of them. -/
theorem minsi_or (x y : BitVec 32) : IntOp.minsi x y = x ∨ IntOp.minsi x y = y := by
  unfold IntOp.minsi; split <;> simp

/-- The lesser of two words is at most either. -/
theorem minsi_le (x y : BitVec 32) : (IntOp.minsi x y).toInt ≤ x.toInt ∧ (IntOp.minsi x y).toInt ≤ y.toInt := by
  unfold IntOp.minsi
  split
  · rename_i h; rw [BitVec.slt_iff_toInt_lt] at h; omega
  · rename_i h; rw [BitVec.slt_iff_toInt_lt] at h; omega

/-- A minimum over a finite set is the initial word or a member's. -/
theorem fold_minsi_mem {ι : Type} [DecidableEq ι] (b : BitVec 32) (f : ι → BitVec 32) (s : Finset ι) :
    s.fold IntOp.minsi b f = b ∨ ∃ i ∈ s, s.fold IntOp.minsi b f = f i := by
  induction s using Finset.induction with
  | empty => exact Or.inl rfl
  | insert a s ha ih =>
    rw [Finset.fold_insert ha]
    rcases minsi_or (f a) (s.fold IntOp.minsi b f) with h | h
    · exact Or.inr ⟨a, Finset.mem_insert_self _ _, h⟩
    · rcases ih with hb | ⟨i, hi, hf⟩
      · exact Or.inl (h.trans hb)
      · exact Or.inr ⟨i, Finset.mem_insert_of_mem hi, h.trans hf⟩

/-- A minimum over a finite set is at most each member's word. -/
theorem fold_minsi_le {ι : Type} [DecidableEq ι] (b : BitVec 32) (f : ι → BitVec 32) (s : Finset ι) {i : ι} (hi : i ∈ s) :
    (s.fold IntOp.minsi b f).toInt ≤ (f i).toInt := by
  induction s using Finset.induction with
  | empty => exact absurd hi (Finset.notMem_empty _)
  | insert a s ha ih =>
    rw [Finset.fold_insert ha]
    rcases Finset.mem_insert.mp hi with rfl | hi
    · exact (minsi_le _ _).1
    · exact ((minsi_le _ _).2).trans (ih hi)

/-- Words below 8192 read the same signed and unsigned. -/
theorem toInt_of_small {w : BitVec 32} (h : w.toNat < 8192) : w.toInt = w.toNat := by
  rw [BitVec.toInt_eq_toNat_of_lt (by omega)]

/-- A minimum from the greatest word over a set with a member, all members below 8192, is a member's word. -/
theorem fold_minsi_attained {ι : Type} [DecidableEq ι] (f : ι → BitVec 32) (s : Finset ι) (hs : s.Nonempty)
    (hf : ∀ i ∈ s, (f i).toNat < 8192) : ∃ i ∈ s, s.fold IntOp.minsi 2147483647#32 f = f i := by
  rcases fold_minsi_mem 2147483647#32 f s with h | h
  · obtain ⟨i, hi⟩ := hs
    have h1 := fold_minsi_le 2147483647#32 f s hi
    rw [h, toInt_of_small (hf i hi)] at h1
    have := hf i hi
    have h2 : (2147483647#32 : BitVec 32).toInt = 2147483647 := by decide
    rw [h2] at h1; omega
  · exact h

/-! ## Every index stored names a row -/

/-- The word the body picks the minimum over: the lane number, or 8191. -/
theorem lane_small (c : IVec S1024x8192 1) (i : S1024x8192.Idx) :
    (select c (iota .tc S1024x8192 32 [1] iota_S1024x8192_d1_w32) (broadcast S1024x8192 8191#32) i).toNat < 8192 := by
  rw [select_apply, iota_single_apply, broadcast_apply]
  have h1 : (i 1).val < 8192 := idx2_lt1 i
  unfold Scalar.select
  split
  · rw [BitVec.toNat_ofNat, Nat.mod_eq_of_lt (by omega)]; exact h1
  · decide

/-- The set of positions a row's reduction takes is not empty. -/
theorem row_nonempty (j : S1024.Idx) :
    (Finset.univ.filter fun i : S1024x8192.Idx => reduces_S1024x8192_S1024.drop i = j).Nonempty :=
  ⟨reduces_S1024x8192_S1024.lift j (0 : Fin 8192), Finset.mem_filter.mpr ⟨Finset.mem_univ _, reduces_S1024x8192_S1024.drop_lift j _⟩⟩

/-- The least word of a row, whatever the condition on its lanes, is below 8192. -/
theorem least_lt (c : IVec S1024x8192 1) (j : S1024.Idx) :
    (multiReductionI .minsi [1] S1024 (select c (iota .tc S1024x8192 32 [1] iota_S1024x8192_d1_w32)
      (broadcast S1024x8192 8191#32)) 2147483647#32 reduces_S1024x8192_S1024 rfl j).toNat < 8192 := by
  obtain ⟨i, -, h⟩ := fold_minsi_attained _ _ (row_nonempty j) fun i _ => lane_small c i
  exact lt_of_eq_of_lt (congrArg BitVec.toNat ((multiReductionI_eq_fold .minsi _ _ reduces_S1024x8192_S1024 rfl j).trans h))
    (lane_small c i)

/-- Every word the body stores into the index block is below 8192. -/
theorem pay1_lt (X1 : S1024x32.Idx → Elt F .f32) (X2 : S8192x32.Idx → Elt F .f32) (j : S1024.Idx) :
    (k0_pay1 X1 X2 j : BitVec 32).toNat < 8192 := by
  unfold k0_pay1
  exact least_lt _ j

/-! ## The final arrays -/

variable (V : (c : Dev nD) → (b : Ref sig .tc) → Buf (Elt F) ((c : Thread nD τ).loc b))

theorem idx_0 : ∀ t : Fin cfg0.N, win0_0.index t = ![t.val, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![t.val] := (by decide +kernel : ∀ t : Fin grid0.N, _)

/-- The grid point that serves row `r`, and the row's lane there. -/
def pointOf (r : Fin 16384) : Fin cfg0.N := ⟨r.val / 1024, by have := r.isLt; show _ < 16; omega⟩
def laneOf (r : Fin 16384) : Fin 1024 := ⟨r.val % 1024, Nat.mod_lt _ (by decide)⟩

/-- The table after the region: the decoded codebook. -/
theorem tabOut_eq (c : Dev nD) : tabOut V c = codebook V c := by
  refine (dat V c).arrAt_eq_of_after_last 6 (⟨15, by decide⟩ : Fin cfg0.N) (by decide +kernel) (codebook V c) fun j => ?_
  rfl

theorem covers_5 : (cfg0.win 5).Covers := by decide +kernel

theorem left_5 (c : Dev nD) (t : Fin cfg0.N) : (dat V c).after 5 t = nearest V c t := rfl

/-- The index list after the region, word by word. -/
theorem idxOut_eq (c : Dev nD) :
    idxOut V c = (fun p => nearest V c (pointOf (p 0)) (ValueIdx.ix1 (laneOf (p 0))) : S16384.Idx → BitVec 32) := by
  refine (dat V c).arrAt_eq_of_covers 5 _ covers_5 fun t hf y => ?_
  have e : ((((cfg0.win 5).blk t).view.emb y) 0 : Nat) = t.val * 1024 + (y 0 : Nat) := by
    blk_simp [idx_5]
  have hy : (y 0 : Nat) < 1024 := (y 0).isLt
  have h1 : pointOf ((((cfg0.win 5).blk t).view.emb y) 0) = t := Fin.ext (by show _ / 1024 = _; omega)
  have h2 : (ValueIdx.ix1 (laneOf ((((cfg0.win 5).blk t).view.emb y) 0)) : S1024.Idx) = y := by
    funext a
    match a with
    | ⟨0, _⟩ => exact Fin.ext (by show _ % 1024 = (y 0 : Nat); omega)
  have hx : (cfg0.win 5).xinj (cfg0.grid.coords t) y = (y : S1024.Idx) := funext fun a => Fin.ext rfl
  exact (cast_eq _ _).trans ((congrFun (left_5 V c t) _).trans
    ((congrArg (nearest V c t) hx).trans (congrArg₂ (nearest V c) h1.symm h2.symm)))

theorem idxOut_apply (c : Dev nD) (r : Fin 16384) :
    (idxOut V c : S16384.Idx → BitVec 32) (ValueIdx.ix1 r) = nearest V c (pointOf r) (ValueIdx.ix1 (laneOf r)) := by
  rw [idxOut_eq]

/-- Every word of the index list names a row of the table. -/
theorem idxOut_lt (c : Dev nD) (j : S16384.Idx) : ((idxOut V c : S16384.Idx → BitVec 32) j).toNat < 8192 := by
  rw [idxOut_eq]
  show (nearest V c _ _ : BitVec 32).toNat < 8192
  unfold nearest
  exact pay1_lt _ _ _

end Cert.Proof

end
-- ==== Proof.Task.lean ====
/-
  The subcores' task: fetch 512 indices, gather those rows of the decoded codebook, write them out.

  Subcore `i` of SparseCore `c` serves rows `512 · (2 i + c) … + 511` of the output. Every task reads the table, at a
  share of it; the index list and the output are cut into 32 pieces. What a task leaves in its piece is named exactly:
  row `r` is the table's row `idx[r]` (`gathered`).
-/
module

public import proofs.«01_k».proof.Proof.Setup
public import Idealize.ShloMosaic.Lib.ValueIdx

@[expose] public section

noncomputable section

namespace Cert.Proof

open Cert.KernelIdeal Cert.KernelIdeal.Gen

open Idealize.ShloMosaic
open Idealize.ShloMosaic.ValueIdx
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem nSub_zero : (K (F := F)).nSub 0 = 16 := rfl
theorem nCore_zero : (K (F := F)).nCore 0 = 2 := rfl

/-! ## The arrays and their 32 pieces -/

/-- The three arrays of the call: the table, the indices, the output. -/
abbrev tLoc (d : Dev nD) : Loc nD τ sig := (SparseCore.T d).loc main_v1_1
abbrev xLoc (d : Dev nD) : Loc nD τ sig := (SparseCore.T d).loc main_v1_0
abbrev oLoc (d : Dev nD) : Loc nD τ sig := (SparseCore.T d).loc main_v2

local notation "tabV" => (Memref.whole Cert.KernelIdeal.main_v1_1_scv : Memref Cert.KernelIdeal.sig Kind.scVector Space.hbm Cert.KernelIdeal.S8192x128 EltTy.f32)
local notation "idxV" => (Memref.whole Cert.KernelIdeal.main_v1_0_scv : Memref Cert.KernelIdeal.sig Kind.scVector Space.hbm Cert.KernelIdeal.S16384 EltTy.i32)
local notation "outV" => (Memref.whole Cert.KernelIdeal.main_v2_scv : Memref Cert.KernelIdeal.sig Kind.scVector Space.hbm Cert.KernelIdeal.S16384x128 EltTy.f32)
local notation "listV" => (Memref.whole Cert.KernelIdeal.cc1_scratch0 : Memref Cert.KernelIdeal.sig Kind.scVector Space.vmem Cert.KernelIdeal.S512 EltTy.i32)
local notation "rowsV" => (Memref.whole Cert.KernelIdeal.cc1_scratch1 : Memref Cert.KernelIdeal.sig Kind.scVector Space.vmem Cert.KernelIdeal.S512x128 EltTy.f32)

/-- The row of the table that `idx[r]` names (the least remainder, so that it is one for any word). -/
def rowAt (ix : S16384.Idx → BitVec 32) (r : Fin 16384) : Fin 8192 := ⟨(ix (ix1 r)).toNat % 8192, Nat.mod_lt _ (by decide)⟩

/-- The gather of the whole call: row `r` is the table's row `idx[r]`. -/
def gathered (ix : S16384.Idx → BitVec 32) (tb : S8192x128.Idx → Elt F .f32) : S16384x128.Idx → Elt F .f32 :=
  fun p => tb (ix2 (rowAt ix (p 0)) (p 1))

theorem idxDiv : 32 ∣ S16384.size 0 := ⟨512, rfl⟩
theorem outDiv : 32 ∣ S16384x128.size 0 := ⟨512, rfl⟩

/-- The elements of piece `k` of the indices and of the output. -/
abbrev xPiece (k : Fin 32) : Finset S16384.Idx := (Rect.part (s := S16384) (a₀ := 0) idxDiv k).set
abbrev oPiece (k : Fin 32) : Finset S16384x128.Idx := (Rect.part (s := S16384x128) (a₀ := 0) outDiv k).set

/-- The piece of subcore `i` of SparseCore `c`. -/
def pieceOf (c : Fin 2) (i : Fin 16) : Fin 32 := ⟨2 * i.val + c.val, by omega⟩

/-- The share of the table a piece's task reads at. -/
abbrev tShare (k : Fin 32) : PosShare TreeShare := Transfers.dealOf fullShare (Finset.univ : Finset (Fin 32)) k

section Pieces

variable (tb : (d : Dev nD) → Buf (Elt F) (tLoc d)) (ix : (d : Dev nD) → Buf (Elt F) (xLoc d)) (o₀ : (d : Dev nD) → Buf (Elt F) (oLoc d))

abbrev xPts (d : Dev nD) (k : Fin 32) : sProp 𝕄 := xLoc d ↦[xPiece k]{fullShare} ix d
abbrev tPts (d : Dev nD) (k : Fin 32) : sProp 𝕄 := tLoc d ↦{tShare k} tb d
abbrev oPts (d : Dev nD) (k : Fin 32) (f : Buf (Elt F) (oLoc d)) : sProp 𝕄 := oLoc d ↦[oPiece k]{fullShare} f

/-- What task `k` is given, and what it hands back. -/
abbrev given (d : Dev nD) (k : Fin 32) : sProp 𝕄 := iprop(xPts ix d k ∗ tPts tb d k ∗ oPts d k (o₀ d))
abbrev served (d : Dev nD) (k : Fin 32) : sProp 𝕄 := iprop(xPts ix d k ∗ tPts tb d k ∗ oPts d k (gathered (ix d) (tb d)))

end Pieces

/-! ## The task -/

section Tile

variable (d : Dev nD) (L : grid1.Coords)

abbrev cV (L : grid1.Coords) : Fin τ.nSC := (L 0).castLE hcore1
abbrev jV (L : grid1.Coords) : Fin τ.nSub := (L 1).castLE hsub1
/-- The subcore's piece. -/
abbrev kL (L : grid1.Coords) : Fin 32 := pieceOf (L 0) (L 1)

abbrev xRect (L : grid1.Coords) : Rect S16384 := Rect.unit (s := S16384) (k1_off1 L) S512.size (k1_off1_inb L)
abbrev oRect (L : grid1.Coords) : Rect S16384x128 := Rect.unit (s := S16384x128) (k1_off2 L) S512x128.size (k1_off2_inb L)
/-- The piece of the indices and of the output, and the whole table, as the task addresses them. -/
abbrev xMem (L : grid1.Coords) : Memref sig .scVector .hbm S512 .i32 := (idxV).slice (xRect L) (fun _ => rfl)
abbrev oMem (L : grid1.Coords) : Memref sig .scVector .hbm S512x128 .f32 := (outV).slice (oRect L) (fun _ => rfl)
abbrev tMem : Memref sig .scVector .hbm S8192x128 .f32 :=
  (tabV).slice (Rect.unit (s := S8192x128) ![0, 0] S8192x128.size inb_S8192x128_S8192x128_0_0) (fun _ => rfl)

theorem xRect_eq : xRect L = Rect.part (s := S16384) (a₀ := 0) idxDiv (kL L) := by
  unfold xRect Rect.part Rect.block
  congr 1 <;> funext a
  · rw [k1_off1_eq]
    match a with
    | 0 => simp [Shape.partIx, Shape.partSize, kL, pieceOf]; omega
  · match a with
    | 0 => simp [Shape.partSize]
theorem oRect_eq : oRect L = Rect.part (s := S16384x128) (a₀ := 0) outDiv (kL L) := by
  unfold oRect Rect.part Rect.block
  congr 1 <;> funext a
  · rw [k1_off2_eq]
    match a with
    | 0 => simp [Shape.partIx, Shape.partSize, kL, pieceOf]; omega
    | 1 => simp [Shape.partIx, Shape.partSize]
  · match a with
    | 0 => simp [Shape.partSize]
    | 1 => simp [Shape.partSize]

theorem xMem_set : (xMem L).view.set = xPiece (kL L) := by
  show ((View.whole (main_v1_0_scv : Ref sig .scVector)).slice (xRect L)).set = _
  rw [View.set_slice, xRect_eq]; exact Finset.map_refl
theorem oMem_set : (oMem L).view.set = oPiece (kL L) := by
  show ((View.whole (main_v2_scv : Ref sig .scVector)).slice (oRect L)).set = _
  rw [View.set_slice, oRect_eq]; exact Finset.map_refl

theorem xPts_eq (f : Buf (Elt F) (xLoc d)) :
    (xLoc d ↦[xPiece (kL L)]{fullShare} f : sProp 𝕄) = (xMem L).view.loc (V d (cV L) (jV L)) ↦[(xMem L).view.set]{fullShare} f := by
  rw [xMem_set]
theorem oPts_eq (f : Buf (Elt F) (oLoc d)) :
    (oLoc d ↦[oPiece (kL L)]{fullShare} f : sProp 𝕄) = (oMem L).view.loc (V d (cV L) (jV L)) ↦[(oMem L).view.set]{fullShare} f := by
  rw [oMem_set]
theorem tPts_eq (q : PosShare TreeShare) (f : Buf (Elt F) (tLoc d)) :
    (tLoc d ↦{q} f : sProp 𝕄) = (tabV).view.loc (V d (cV L) (jV L)) ↦{q} f := rfl
theorem list_set (f : Buf (Elt F) ((V d (cV L) (jV L)).loc cc1_scratch0)) :
    ((listV).view.loc (V d (cV L) (jV L)) ↦{fullShare} f : sProp 𝕄)
      = (listV).view.loc (V d (cV L) (jV L)) ↦[(listV).view.set]{fullShare} f := by
  rw [show (listV).view.set = Finset.univ from View.set_whole _]
theorem rows_set (f : Buf (Elt F) ((V d (cV L) (jV L)).loc cc1_scratch1)) :
    ((rowsV).view.loc (V d (cV L) (jV L)) ↦{fullShare} f : sProp 𝕄)
      = (rowsV).view.loc (V d (cV L) (jV L)) ↦[(rowsV).view.set]{fullShare} f := by
  rw [show (rowsV).view.set = Finset.univ from View.set_whole _]

/-- The task's three transfer semaphores. -/
abbrev cellX (d : Dev nD) (c : Fin τ.nSC) (i : Fin τ.nSub) : GSem nD τ sig := (V d c i, .dma cc1_scoped0.sem)
abbrev cellG (d : Dev nD) (c : Fin τ.nSC) (i : Fin τ.nSub) : GSem nD τ sig := (V d c i, .dma cc1_scratch2.sem)
abbrev cellO (d : Dev nD) (c : Fin τ.nSC) (i : Fin τ.nSub) : GSem nD τ sig := (V d c i, .dma cc1_scoped1.sem)

/-- They are among the subcore's own, and the rest. -/
theorem ownSems_split :
    (ownSems0 (V d (cV L) (jV L)) : sProp 𝕄)
      = iprop(semVal (cellX d (cV L) (jV L)) 0 ∗ semVal (cellG d (cV L) (jV L)) 0 ∗ semVal (cellO d (cV L) (jV L)) 0
          ∗ bigSep ((((ownCells (V d (cV L) (jV L))).erase (cellX d (cV L) (jV L))).erase (cellG d (cV L) (jV L))).erase (cellO d (cV L) (jV L)))
              fun g => semVal g 0) := by
  unfold SparseCore.Cfg.ownSems0
  have hX : cellX d (cV L) (jV L) ∈ ownCells (V d (cV L) (jV L)) := mem_ownCells.mpr ⟨rfl, by
    show (SemLoc.dma cc1_scoped0.sem : SemLoc sig).isScoped .scVector = true; decide⟩
  have hG : cellG d (cV L) (jV L) ∈ ownCells (V d (cV L) (jV L)) := mem_ownCells.mpr ⟨rfl, by
    show (SemLoc.dma cc1_scratch2.sem : SemLoc sig).isScoped .scVector = true; decide⟩
  have hO : cellO d (cV L) (jV L) ∈ ownCells (V d (cV L) (jV L)) := mem_ownCells.mpr ⟨rfl, by
    show (SemLoc.dma cc1_scoped1.sem : SemLoc sig).isScoped .scVector = true; decide⟩
  have hGX : cellG d (cV L) (jV L) ≠ cellX d (cV L) (jV L) := by simp [cellG, cellX]; decide
  have hOX : cellO d (cV L) (jV L) ≠ cellX d (cV L) (jV L) := by simp [cellO, cellX]; decide
  have hOG : cellO d (cV L) (jV L) ≠ cellG d (cV L) (jV L) := by simp [cellO, cellG]; decide
  rw [SparseCore.bigSep_erase' hX, SparseCore.bigSep_erase' (Finset.mem_erase.mpr ⟨hGX, hG⟩),
    SparseCore.bigSep_erase' (Finset.mem_erase.mpr ⟨hOG, Finset.mem_erase.mpr ⟨hOX, hO⟩⟩)]

/-- The list's and the rows' scratch are among the subcore's own buffers, and the rest. -/
theorem ownBufs_split :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  have h0 : (Proc.scVector (cV L) (jV L)).devRef cc1_scratch0 ∈ ownRefs (τ := τ) (sig := sig) (.scVector (cV L) (jV L)) :=
    SparseCore.Cfg.mem_ownRefs_of_owner (p := Proc.scVector (cV L) (jV L)) rfl
  have h1 : (Proc.scVector (cV L) (jV L)).devRef cc1_scratch1 ∈ ownRefs (τ := τ) (sig := sig) (.scVector (cV L) (jV L)) :=
    SparseCore.Cfg.mem_ownRefs_of_owner (p := Proc.scVector (cV L) (jV L)) rfl
  have h10 : (Proc.scVector (cV L) (jV L)).devRef cc1_scratch1 ≠ (Proc.scVector (cV L) (jV L)).devRef cc1_scratch0 := fun e =>
    absurd (Proc.devRef_injective _ e) (show (cc1_scratch1 : Ref sig .scVector) ≠ cc1_scratch0 by decide)
  refine (SparseCore.bigSep_erase' h0).trans ?_
  rw [SparseCore.bigSep_erase' (Finset.mem_erase.mpr ⟨h10, h1⟩)]

/-- The fetched list is the piece of the indices, so every word of it is a row of the table. -/
theorem list_inb (ix : Buf (Elt F) (xLoc d)) (hix : ∀ j : S16384.Idx, (ix j).toNat < 8192)
    (fs : Buf (Elt F) ((V d (cV L) (jV L)).loc cc1_scratch0)) (pay : S512.Idx → Elt F .i32) (hpay : pay = (xMem L).view.read (Elt F) ix) :
    ∀ x, ((listV).view.read (Elt F) (View.write (Elt F) (listV).view fs pay Finset.univ) x).toNat < S8192x128.size gathers_S8192x128_S512x128.axis := by
  subst hpay; intro x
  rw [View.write_whole_univ]
  simp only [Memref.view_whole, View.read_whole]
  rw [show ∀ j, (xMem L).view.read (Elt F) ix j = ix ((xMem L).view.emb j) from fun j => (View.read_apply _ _).trans (cast_eq _ _)]
  exact hix _

/-- What the gather lands in the rows' scratch, at an index: the table's row that the piece's index there names. -/
theorem landed (tb : Buf (Elt F) (tLoc d)) (ix : Buf (Elt F) (xLoc d)) (hix : ∀ j : S16384.Idx, (ix j).toNat < 8192)
    (fs : Buf (Elt F) ((V d (cV L) (jV L)).loc cc1_scratch0)) (fr : Buf (Elt F) ((V d (cV L) (jV L)).loc cc1_scratch1))
    (hn : S512.numel = S512x128.size gathers_S8192x128_S512x128.axis')
    (hin : ∀ x, ((listV).view.read (Elt F) (View.write (Elt F) (listV).view fs ((xMem L).view.read (Elt F) ix) Finset.univ) x).toNat
      < S8192x128.size gathers_S8192x128_S512x128.axis) (x : S512x128.Idx) :
    (rowsV).view.read (Elt F) (View.write (Elt F) (rowsV).view fr
        (SparseCore.gatherPayload gathers_S8192x128_S512x128 ((tMem).view.read (Elt F) tb)
          (SparseCore.rows ((listV).view.read (Elt F) (View.write (Elt F) (listV).view fs ((xMem L).view.read (Elt F) ix) Finset.univ)) hn hin))
        Finset.univ) x
      = gathered ix tb ((oMem L).view.emb x) := by
  rw [View.read_write_univ]
  unfold SparseCore.gatherPayload gathered
  rw [show ∀ j, (tMem).view.read (Elt F) tb j = tb ((tMem).view.emb j) from fun j => (View.read_apply _ _).trans (cast_eq _ _)]
  refine congrArg tb (funext fun a => Fin.ext ?_)
  have hoff : k1_off2 L 0 = k1_off1 L 0 := by rw [k1_off1_eq, k1_off2_eq]; rfl
  have hoff1 : k1_off2 L 1 = 0 := by rw [k1_off2_eq]; rfl
  match a with
  | 0 =>
    have h := congrArg Fin.val (Shape.Gathers.idx_axis gathers_S8192x128_S512x128 (SparseCore.rows ((listV).view.read (Elt F) (View.write (Elt F) (listV).view fs ((xMem L).view.read (Elt F) ix) Finset.univ)) hn hin) x)
    refine Eq.trans (b := (Shape.Gathers.idx gathers_S8192x128_S512x128 (SparseCore.rows ((listV).view.read (Elt F) (View.write (Elt F) (listV).view fs ((xMem L).view.read (Elt F) ix) Finset.univ)) hn hin) x 0).val) ?_ (Eq.trans h ?_)
    · show 0 + 1 * _ = _
      omega
    show (((listV).view.read (Elt F) (View.write (Elt F) (listV).view fs ((xMem L).view.read (Elt F) ix) Finset.univ))
      (S512.rowMajor.symm ((x 0).cast hn.symm))).toNat = (ix (ix1 _)).toNat % 8192
    rw [View.read_write_univ, Nat.mod_eq_of_lt (hix _),
      show ∀ j, (xMem L).view.read (Elt F) ix j = ix ((xMem L).view.emb j) from fun j => (View.read_apply _ _).trans (cast_eq _ _)]
    refine congrArg (fun j => BitVec.toNat (ix j)) (funext fun a => Fin.ext ?_)
    match a with
    | 0 =>
      show k1_off1 L 0 + 1 * (S512.rowMajor.symm ((x 0).cast hn.symm) 0).val = k1_off2 L 0 + 1 * (x 0).val
      rw [hoff, ← Shape.rowMajor_val_one (S512.rowMajor.symm ((x 0).cast hn.symm))]
      show _ + 1 * (S512.rowMajor (S512.rowMajor.symm ((x 0).cast hn.symm))).val = _
      rw [Equiv.apply_symm_apply]; rfl
  | 1 =>
    have h := Shape.Gathers.idx_of_ne gathers_S8192x128_S512x128 (SparseCore.rows ((listV).view.read (Elt F) (View.write (Elt F) (listV).view fs ((xMem L).view.read (Elt F) ix) Finset.univ)) hn hin) x 1 (by decide)
    refine Eq.trans (b := (Shape.Gathers.idx gathers_S8192x128_S512x128 (SparseCore.rows ((listV).view.read (Elt F) (View.write (Elt F) (listV).view fs ((xMem L).view.read (Elt F) ix) Finset.univ)) hn hin) x 1).val) ?_ (Eq.trans h ?_)
    · show 0 + 1 * _ = _
      omega
    show (x 1).val = k1_off2 L 1 + 1 * (x 1).val
    rw [hoff1]; omega

/-- The output's piece, written with what landed, is the piece of the whole gather. -/
theorem out_eq (tb : Buf (Elt F) (tLoc d)) (ix : Buf (Elt F) (xLoc d)) (o₀ : Buf (Elt F) (oLoc d)) (pay : S512x128.Idx → Elt F .f32)
    (hpay : ∀ x, pay x = gathered ix tb ((oMem L).view.emb x)) :
    ((oMem L).view.loc (V d (cV L) (jV L)) ↦[(oMem L).view.set]{fullShare} (oMem L).view.writes (Elt F) o₀ [⟨Rect.whole S512x128, pay⟩] : sProp 𝕄)
      = oLoc d ↦[oPiece (kL L)]{fullShare} gathered ix tb := by
  rw [oPts_eq]
  refine pointsTo_congr fun p hp => ?_
  obtain ⟨x, -, rfl⟩ := Finset.mem_map.mp hp
  rw [← hpay x, ← congrFun (View.read_writes_whole (oMem L).view o₀ pay) x]
  exact ((View.read_apply _ _).trans (cast_eq _ _)).symm

variable [FloatOps F]

set_option maxHeartbeats 4000000 in
/-- The task on vector subcore `(L 0, L 1)` of device `d`. -/
theorem task_body (hF : (K (F := F)).Facts) (tb : Buf (Elt F) (tLoc d)) (ix : Buf (Elt F) (xLoc d)) (o₀ : Buf (Elt F) (oLoc d))
    (hix : ∀ j : S16384.Idx, (ix j).toNat < 8192)
    (O : CellTallies nD τ sig (HIx 1)) (W : Waits sig (HIx 1)) (hO : ∀ g, O g none = 0) :
    (iprop(levAts (K (F := F)).L (K (F := F)).lev ∗ emp
        ∗ ((xLoc d ↦[xPiece (kL L)]{fullShare} ix) ∗ (tLoc d ↦{tShare (kL L)} tb) ∗ oLoc d ↦[oPiece (kL L)]{fullShare} o₀)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather L tabV (Memref.isWhole_whole _) idxV (Memref.isWhole_whole _) outV (Memref.isWhole_whole _)
            listV (Memref.isWhole_whole _) rowsV (Memref.isWhole_whole _) cc1_scratch2 cc1_scoped0 cc1_scoped1)
          fun _ => iprop(((xLoc d ↦[xPiece (kL L)]{fullShare} ix) ∗ (tLoc d ↦{tShare (kL L)} tb)
              ∗ oLoc d ↦[oPiece (kL L)]{fullShare} gathered ix tb)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_eq_skeleton]; unfold cc1_gather_skel
  rw [(K (F := F)).scopedBufs_V hF d (cV L) (jV L), SparseCore.Cfg.scopedSems0_V (Val := Elt F) d (cV L) (jV L), ownSems_split, ownBufs_split]
  iintro ⟨#Hlv, -, ⟨Hx, Ht, Ho⟩, ⟨⟨%fs, Hs⟩, ⟨%fr, Hr⟩, Hbufs⟩, ⟨HsemX, HsemG, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx := (Entails.of_eq (xPts_eq (F := F) d L _)) $$ Hx
  ihave Ho := (Entails.of_eq (oPts_eq (F := F) d L _)) $$ Ho
  ihave Ht := (Entails.of_eq (tPts_eq (F := F) d L _ _)) $$ Ht
  ihave Hs := (show ((V d (cV L) (jV L)).loc cc1_scratch0 ↦{fullShare} fs : sProp 𝕄) ⊢ (listV).view.loc (V d (cV L) (jV L)) ↦{fullShare} fs from .rfl) $$ Hs
  ihave Hr := (show ((V d (cV L) (jV L)).loc cc1_scratch1 ↦{fullShare} fr : sProp 𝕄) ⊢ (rowsV).view.loc (V d (cV L) (jV L)) ↦{fullShare} fr from .rfl) $$ Hr
  sl_exec
  ihave Ht := (pointsTo_split_subset (q := tShare (kL L)) (f := tb) (S := Finset.univ) (Finset.subset_univ (tMem).view.set)).1 $$ Ht
  icases Ht with ⟨Ht, Htr⟩
  ihave Hr := (Entails.of_eq (rows_set (F := F) d L _)) $$ Hr
  ihave Hs := (Entails.of_eq (list_set (F := F) d L _)) $$ Hs
  have hN : ∀ h : S8192x128.Gathers 0 S512x128, ∑ j, ((rowsV).slice (S512x128.rowRect h.axis' j) (S512x128.stride_rowRect h.axis' j)).view.dmaCredit
      = (rowsV).view.dmaCredit := by decide +kernel
  iapply (SparseCore.wp_indirectGatherLocal countersEmb 𝒱₀ (V d (cV L) (jV L)) none (hg := gathers_S8192x128_S512x128) (default : HIx 1)
      (rowsV).view.dmaCredit (hN _) (by decide) (list_inb d L ix hix fs _ rfl)) $$ [Ht Hr Hs HsemG]
  · isplitl [Ht]; · iexact Ht
    isplitl [Hr]; · iexact Hr
    isplitl [Hs]; · iexact Hs
    iexact HsemG
  iintro Hfl
  sl_exec
  iapply (Transfers.wp_waitLocalO countersEmb 𝒱₀ (V d (cV L) (jV L)) none (default : HIx 1) (rfl : (rowsV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr, Ht, Hs⟩, HsemG, HO⟩
  ihave Ht := (pointsTo_split_subset (q := tShare (kL L)) (f := tb) (S := Finset.univ) (Finset.subset_univ (tMem).view.set)).2 $$ [Ht Htr]
  · isplitl [Ht] <;> iassumption
  ihave Hr := (Entails.of_eq (rows_set (F := F) d L _).symm) $$ Hr
  ihave Hs := (Entails.of_eq (list_set (F := F) d L _).symm) $$ Hs
  sl_exec
  sl_step
  isplitl [Hx Ht Ho]
  · isplitl [Hx]; · iapply (Entails.of_eq (xPts_eq (F := F) d L _).symm); iexact Hx
    isplitl [Ht]; · iexact Ht
    iapply (Entails.of_eq (out_eq (F := F) d L tb ix o₀ _ (landed d L tb ix hix fs fr _ _))); iexact Ho
  isplitl [Hs Hr Hbufs]
  · isplitl [Hs]; · iexists _; iexact Hs
    isplitl [Hr]; · iexists _; iexact Hr
    iexact Hbufs
  isplitl [HsemX HsemG HsemO Hsems]
  · isplitl [HsemX]; · iexact HsemX
    isplitl [HsemG]; · iexact HsemG
    isplitl [HsemO]; · iexact HsemO
    iexact Hsems
  iexists _; isplitr
  swap; · iexact HO
  ipureintro; intro p hp
  simp only [Finset.mem_insert] at hp
  rcases hp with hp | hp | hp | hp
  · exact .inr (hp ▸ rfl)
  · exact .inr (hp ▸ rfl)
  · exact .inr (hp ▸ rfl)
  · exact .inl hp

end Tile

end Cert.Proof

end
-- ==== Proof.Launch.lean ====
/-
  The whole program's run: the reshape, the region, the SparseCore call, the slice.

  The TensorCore's unscoped buffers are named, all of them, before and after each of the four statements of `main`
  (`W0 … W4`), so that the run's end says of each what it holds. Between the region and the slice the call takes the
  index list, the decoded codebook and the output apart into one share per subcore and puts them together again.
-/
module

public import proofs.«01_k».proof.Proof.Region
public import proofs.«01_k».proof.Proof.Arrays
public import proofs.«01_k».proof.Proof.Task

@[expose] public section

noncomputable section

namespace Cert.Proof

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The buffers between the statements of `main` -/

/-- A TensorCore buffer as the device's. -/
abbrev dr (b : Ref sig .tc) : DevRef τ sig := Proc.devRef .tc b

/-- The two statements of `main` that are StableHLO's: the bias as a row, and the first ten lanes of the output. -/
abbrev opBias : HloOp τ sig (Elt F) := StableHlo.reshape main_arg4 main_v0 (rfl : (.f32 : EltTy) = .f32) shapeCasts_S10_S1x10
abbrev opCut : HloOp τ sig (Elt F) :=
  StableHlo.unary main_v2 main_v3 ((extractStridedSlice S16384x10 ![0, 0] · slices_S16384x128_S16384x10_0_0) :
    (⟨S16384x128, .f32⟩ : BufTy).Contents (Elt F) → (⟨S16384x10, .f32⟩ : BufTy).Contents (Elt F))

variable (m : (ℓ : Loc nD τ sig) → Buf (Elt F) ℓ) (ρ : Dev nD → PrngReg)

/-- At the launch. -/
def W0 (d : Dev nD) : Valuation τ sig (Elt F) := fun b => m (d, b)
/-- After the reshape. -/
def W1 (d : Dev nD) : Valuation τ sig (Elt F) := opBias.result (W0 m d)
/-- The same by TensorCore reference: what the region is entered with. -/
def V1 (d : Dev nD) (b : Ref sig .tc) : Buf (Elt F) ((d : Thread nD τ).loc b) := W1 m d (dr b)
/-- After the region: its two results written. -/
def W2 (d : Dev nD) : Valuation τ sig (Elt F) :=
  Function.update (Function.update (W1 m d) (dr main_v1_0) (idxOut (V1 m) d)) (dr main_v1_1) (tabOut (V1 m) d)
/-- After the call: the output gathered. -/
def W3 (d : Dev nD) : Valuation τ sig (Elt F) :=
  Function.update (W2 m d) (dr main_v2) (gathered (idxOut (V1 m) d) (tabOut (V1 m) d))
/-- After the slice. -/
def W4 (d : Dev nD) : Valuation τ sig (Elt F) := opCut.result (W3 m d)

theorem W2_idx (d : Dev nD) : W2 m d (dr main_v1_0) = idxOut (V1 m) d := by
  unfold W2
  rw [Function.update_of_ne (StableHlo.devRef_ne_of_ne (by decide)), Function.update_self]
theorem W2_tab (d : Dev nD) : W2 m d (dr main_v1_1) = tabOut (V1 m) d := by
  unfold W2
  rw [Function.update_self]
theorem W2_else (d : Dev nD) (b : Ref sig .tc) (h5 : b ≠ main_v1_0) (h6 : b ≠ main_v1_1) : W2 m d (dr b) = V1 m d b := by
  unfold W2
  rw [Function.update_of_ne (StableHlo.devRef_ne_of_ne h6), Function.update_of_ne (StableHlo.devRef_ne_of_ne h5)]; rfl
theorem W3_out (d : Dev nD) : W3 m d (dr main_v2) = gathered (idxOut (V1 m) d) (tabOut (V1 m) d) := by
  unfold W3
  rw [Function.update_self]
theorem W3_else (d : Dev nD) (b : DevRef τ sig) (h : b ≠ dr main_v2) : W3 m d b = W2 m d b := by
  unfold W3
  rw [Function.update_of_ne h]
theorem W4_out (d : Dev nD) : W4 m d (dr main_v3)
    = extractStridedSlice S16384x10 ![0, 0] (gathered (idxOut (V1 m) d) (tabOut (V1 m) d)) slices_S16384x128_S16384x10_0_0 := by
  unfold W4 opCut
  rw [StableHlo.unary_result', W3_out]

/-- A buffer that no statement writes holds what it held at the launch. -/
theorem W4_kept (d : Dev nD) (b : Ref sig .tc) (h0 : b ≠ main_v0) (h5 : b ≠ main_v1_0) (h6 : b ≠ main_v1_1) (h2 : b ≠ main_v2)
    (h3 : b ≠ main_v3) : W4 m d (dr b) = m (d, dr b) := by
  unfold W4 opCut
  rw [StableHlo.unary_result_ne _ _ _ _ _ _ h3, W3_else m d _ (StableHlo.devRef_ne_of_ne h2), W2_else m d b h5 h6]
  unfold V1 W1 opBias
  rw [StableHlo.reshape_result_ne _ _ _ _ _ _ _ h0]; rfl

/-! ## What the call takes, in 32 pieces -/

/-- The table, the index list and the output's old contents. -/
abbrev tbl (d : Dev nD) : Buf (Elt F) (tLoc d) := tabOut (V1 m) d
abbrev lst (d : Dev nD) : Buf (Elt F) (xLoc d) := idxOut (V1 m) d
abbrev old (d : Dev nD) : Buf (Elt F) (oLoc d) := W2 m d (dr main_v2)

/-- The piece of task `i` of SparseCore `c` of the call. -/
abbrev pieceAt (c : Fin ((K (F := F)).nCore 0)) (i : Fin ((K (F := F)).nSub 0)) : Fin 32 :=
  pieceOf (Fin.cast nCore_zero c) (Fin.cast nSub_zero i)

/-- Every piece is one subcore's. -/
def pieceEquiv : Fin 2 × Fin 16 ≃ Fin 32 where
  toFun p := pieceOf p.1 p.2
  invFun k := (⟨k.val % 2, Nat.mod_lt _ (by decide)⟩, ⟨k.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv k := Fin.ext (by show 2 * (k.val / 2) + k.val % 2 = k.val; omega)

/-- All the pieces at once, or subcore by subcore. -/
theorem bigSep_pieces (Φ : Fin 32 → sProp 𝕄) :
    bigSep Finset.univ Φ
      = bigSep Finset.univ fun c : Fin ((K (F := F)).nCore 0) => bigSep Finset.univ fun i : Fin ((K (F := F)).nSub 0) => Φ (pieceAt c i) :=
  (bigSep_univ_equiv pieceEquiv Φ).trans (bigSep_univ_prod (fun p : Fin 2 × Fin 16 => Φ (pieceEquiv p)))

theorem list_pieces (d : Dev nD) (f : Buf (Elt F) (xLoc d)) :
    (xLoc d ↦{fullShare} f : sProp 𝕄) = bigSep Finset.univ fun k : Fin 32 => xLoc d ↦[xPiece k]{fullShare} f := by
  rw [← pointsTo_biUnion Finset.univ (ℓ := xLoc d) xPiece fun i _ j _ h => Rect.part_disjoint idxDiv h]
  rw [show (Finset.univ : Finset (Fin 32)).biUnion xPiece = Finset.univ from Rect.biUnion_part idxDiv]
theorem out_pieces (d : Dev nD) (f : Buf (Elt F) (oLoc d)) :
    (oLoc d ↦{fullShare} f : sProp 𝕄) = bigSep Finset.univ fun k : Fin 32 => oLoc d ↦[oPiece k]{fullShare} f := by
  rw [← pointsTo_biUnion Finset.univ (ℓ := oLoc d) oPiece fun i _ j _ h => Rect.part_disjoint outDiv h]
  rw [show (Finset.univ : Finset (Fin 32)).biUnion oPiece = Finset.univ from Rect.biUnion_part outDiv]
theorem tab_pieces (d : Dev nD) (f : Buf (Elt F) (tLoc d)) :
    (tLoc d ↦{fullShare} f : sProp 𝕄) = bigSep Finset.univ fun k : Fin 32 => tLoc d ↦{tShare k} f :=
  Transfers.pointsTo_deal Finset.univ Finset.univ_nonempty fullShare

/-- The three arrays whole are the 32 subcores' parts of them. -/
theorem deal (d : Dev nD) (x : Buf (Elt F) (xLoc d)) (t : Buf (Elt F) (tLoc d)) (o : Buf (Elt F) (oLoc d)) :
    (iprop((xLoc d ↦{fullShare} x) ∗ (tLoc d ↦{fullShare} t) ∗ (oLoc d ↦{fullShare} o)) : sProp 𝕄)
      = bigSep Finset.univ fun c : Fin ((K (F := F)).nCore 0) => bigSep Finset.univ fun i : Fin ((K (F := F)).nSub 0) =>
          iprop((xLoc d ↦[xPiece (pieceAt c i)]{fullShare} x) ∗ (tLoc d ↦{tShare (pieceAt c i)} t)
            ∗ (oLoc d ↦[oPiece (pieceAt c i)]{fullShare} o)) := by
  rw [list_pieces, tab_pieces, out_pieces, ← bigSep_sep', ← bigSep_sep']
  exact bigSep_pieces fun k => iprop((xLoc d ↦[xPiece k]{fullShare} x) ∗ (tLoc d ↦{tShare k} t) ∗ (oLoc d ↦[oPiece k]{fullShare} o))

/-! ## What passes between the threads -/

def P : (K (F := F)).Pay (nD := nD) (Val := Elt F) (Name := ℕ) (U := UU) where
  st := fun q d c => match q with
    | 0 => bigSep Finset.univ fun i : Fin ((K (F := F)).nSub 0) => given (tbl m) (lst m) (old m) d (pieceAt c i)
  dn := fun q d c => match q with
    | 0 => bigSep Finset.univ fun i : Fin ((K (F := F)).nSub 0) => served (tbl m) (lst m) d (pieceAt c i)
  go := fun q d c i => match q with
    | 0 => given (tbl m) (lst m) (old m) d (pieceAt c i)
  td := fun q d c i => match q with
    | 0 => served (tbl m) (lst m) d (pieceAt c i)
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => given (tbl m) (lst m) (old m) d (pieceAt c i)))
  dn q d c := match q with
    | 0 => (inferInstance : BI.Storable (upEmb : UEmb _ 𝕄)
        (bigSep Finset.univ fun i : Fin ((K (F := F)).nSub 0) => served (tbl m) (lst m) d (pieceAt c i)))
  go q d c i := match q with
    | 0 => (inferInstance : BI.Storable (upEmb : UEmb _ 𝕄) (given (tbl m) (lst m) (old m) d (pieceAt c i)))
  td q d c i := match q with
    | 0 => (inferInstance : BI.Storable (upEmb : UEmb _ 𝕄) (served (tbl m) (lst m) d (pieceAt c i)))

/-- A sequencer hands each of its subcores its part and takes it back. -/
theorem vecSplit : (K (F := F)).VecSplit' (P m) 0 := by
  intro d c
  show (bigSep Finset.univ fun i : Fin ((K (F := F)).nSub 0) => given (tbl m) (lst m) (old m) d (pieceAt c i))
    ⊢ |={Set.univ}=> iprop((bigSep Finset.univ fun i : Fin ((K (F := F)).nSub 0) => given (tbl m) (lst m) (old m) d (pieceAt c i))
      ∗ ((bigSep Finset.univ fun i : Fin ((K (F := F)).nSub 0) => served (tbl m) (lst m) d (pieceAt c i))
        -∗ bigSep Finset.univ fun i : Fin ((K (F := F)).nSub 0) => served (tbl m) (lst m) d (pieceAt c i)))
  iintro H; imodintro
  isplitl [H]; · iexact H
  iintro H; iexact H

/-! ## The subcores' obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          (Memref.whole main_v1_1_scv) (Memref.isWhole_whole _) (Memref.whole main_v1_0_scv) (Memref.isWhole_whole _)
          (Memref.whole main_v2_scv) (Memref.isWhole_whole _) (Memref.whole cc1_scratch0) (Memref.isWhole_whole _)
          (Memref.whole cc1_scratch1) (Memref.isWhole_whole _) cc1_scratch2 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_body d (coordsV ⟨_, hci.1⟩ ⟨_, hci.2⟩) hF (tbl m d) (lst m d) (old m d) (idxOut_lt (V1 m) d) O W hO).trans
    (wp_mono frame _ _ fun _ => obl_post)

/-! ## The launch's ghost state -/

def u₀ : UU :=
  (initOf (K (F := F)).hsCells (K (F := F)).hsToks,
    (initOf (Pipeline.cells cfgs cellOf_inj) (Pipeline.launchToks cfgs cellOf_inj), 1))

/-- What the region's staging buffers need at core `d`. -/
abbrev G (d : Dev nD) : sProp 𝕄 :=
  iprop(Pipeline.PerCore.cellsGhost (fun _ => cfgs) (EP (F := F)) 0 d ∗ Pipeline.PerCore.toksInit (fun _ => cfgs) (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_deal (F := F) (initOf (K (F := F)).hsCells (K (F := F)).hsToks)
    (initOf (Pipeline.cells cfgs cellOf_inj) (Pipeline.launchToks cfgs cellOf_inj))) $$ Hu
  icases H with ⟨HH, HP⟩
  imod (Pipeline.PerCore.fund_ghost (fun _ : Dev nD => cfgs) (EP (F := F)) cellOf_inj) $$ HP with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## `main` on the TensorCore -/

/-- The unscoped buffers of a device. -/
abbrev bufs : Finset (DevRef τ sig) := Pipeline.ucRefs τ sig

theorem mem_bufs (b : Ref sig .tc) (h : b.isScoped = false) : dr b ∈ bufs :=
  Finset.mem_filter.mpr ⟨StableHlo.devRef_mem_tcRefs b, by
    show ¬ (dr b).isScoped = true
    rw [show (dr b).isScoped = b.isScoped from rfl, h]; decide⟩

/-- Those that the call does not touch. -/
abbrev others : Finset (DevRef τ sig) := ((bufs.erase (dr main_v1_0)).erase (dr main_v1_1)).erase (dr main_v2)

/-- The unscoped buffers, the call's three arrays apart. -/
theorem held_call (d : Dev nD) (W : Valuation τ sig (Elt F)) :
    (StableHlo.held (SparseCore.T d) bufs W : sProp 𝕄)
      = iprop((xLoc d ↦{fullShare} W (dr main_v1_0)) ∗ (tLoc d ↦{fullShare} W (dr main_v1_1)) ∗ (oLoc d ↦{fullShare} W (dr main_v2))
          ∗ StableHlo.held (SparseCore.T d) others W) := by
  unfold StableHlo.held
  rw [SparseCore.bigSep_erase' (mem_bufs main_v1_0 rfl),
    SparseCore.bigSep_erase' (Finset.mem_erase.mpr ⟨StableHlo.devRef_ne_of_ne (by decide), mem_bufs main_v1_1 rfl⟩),
    SparseCore.bigSep_erase' (Finset.mem_erase.mpr ⟨StableHlo.devRef_ne_of_ne (by decide),
      Finset.mem_erase.mpr ⟨StableHlo.devRef_ne_of_ne (by decide), mem_bufs main_v2 rfl⟩⟩)]

theorem regroup (A B C R : sProp 𝕄) : iprop(A ∗ B ∗ C ∗ R) = iprop((A ∗ B ∗ C) ∗ R) := by
  refine equiv_iff.mp ⟨?_, ?_⟩
  · show iprop(A ∗ B ∗ C ∗ R) ⊢ iprop((A ∗ B ∗ C) ∗ R)
    iintro ⟨HA, HB, HC, HR⟩
    isplitr [HR]
    · isplitl [HA]; · iexact HA
      isplitl [HB] <;> iassumption
    iexact HR
  show iprop((A ∗ B ∗ C) ∗ R) ⊢ iprop(A ∗ B ∗ C ∗ R)
  iintro ⟨⟨HA, HB, HC⟩, HR⟩
  isplitl [HA]; · iexact HA
  isplitl [HB]; · iexact HB
  isplitl [HC] <;> iassumption

/-- Before the call they are the subcores' parts and the rest. -/
theorem before_call (d : Dev nD) :
    (StableHlo.held (SparseCore.T d) bufs (W2 m d) : sProp 𝕄)
      = iprop((bigSep Finset.univ fun c : Fin ((K (F := F)).nCore 0) => (P m).st 0 d c) ∗ StableHlo.held (SparseCore.T d) others (W2 m d)) := by
  rw [held_call, W2_idx, W2_tab]
  refine Eq.trans ?_ (congrArg (fun p => iprop(p ∗ StableHlo.held (SparseCore.T d) others (W2 m d))) (deal d (lst m d) (tbl m d) (old m d)))
  exact regroup _ _ _ _

/-- After it the same at the gathered output. -/
theorem after_call (d : Dev nD) :
    (StableHlo.held (SparseCore.T d) bufs (W3 m d) : sProp 𝕄)
      = iprop((bigSep Finset.univ fun c : Fin ((K (F := F)).nCore 0) => (P m).dn 0 d c) ∗ StableHlo.held (SparseCore.T d) others (W2 m d)) := by
  rw [held_call, W3_out, W3_else m d (dr main_v1_0) (StableHlo.devRef_ne_of_ne (by decide)),
    W3_else m d (dr main_v1_1) (StableHlo.devRef_ne_of_ne (by decide)), W2_idx, W2_tab,
    StableHlo.held_congr (V' := W2 m d) (SparseCore.T d) fun b hb => W3_else m d b (Finset.mem_erase.mp hb).1]
  refine Eq.trans ?_ (congrArg (fun p => iprop(p ∗ StableHlo.held (SparseCore.T d) others (W2 m d)))
    (deal d (lst m d) (tbl m d) (gathered (lst m d) (tbl m d))))
  exact regroup _ _ _ _

abbrev FIN (d : Dev nD) : sProp 𝕄 := StableHlo.held (SparseCore.T d) bufs (W4 m d)

/-- The region between `W1` and `W2`. -/
abbrev seg := region (V1 m) (fun d b => W2 m d (dr b)) (W2_idx m) (W2_tab m) (W2_else m)

/-- The TensorCore's debts out of its state before the call, and back. -/
theorem debts (d : Dev nD) :
    ((K (F := F)).tcSt EH d 0 : sProp 𝕄)
      ⊢ iprop((∃ W, ⌜(K (F := F)).WBelow (SparseCore.T d) W 0⌝ ∗ owes (SparseCore.T d) ((K (F := F)).Otc d 0) W)
        ∗ ((∃ W, ⌜(K (F := F)).WBelow (SparseCore.T d) W 0⌝ ∗ owes (SparseCore.T d) ((K (F := F)).Otc d 0) W) -∗ (K (F := F)).tcSt EH d 0)) := by
  unfold SparseCore.Cfg.tcSt
  iintro ⟨HO, Hrest⟩
  isplitl [HO]; · iexact HO
  iintro HO
  isplitl [HO]; · iexact HO
  iexact Hrest

theorem hmain (κ : GSem nD τ sig → ℕ) (d : Dev nD) [∀ e, Nonempty (Elt F e)] :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) bufs (W0 m d)
    from Pipeline.unscopedBufs_held d (W0 m d)]
  simp only [main, wp_bind, wp_pure]
  iintro ⟨#Hctx, Hst, ⟨Hb, Hheld, Hts, -⟩, ⟨Hcells, Htoks⟩⟩
  iapply (StableHlo.wp_hlo_within 𝒱 (SparseCore.T d) none Set.univ (op := opBias) (S := bufs)
    (Pipeline.sub_ucRefs _ (StableHlo.reshape_bufs_sub ..)) (V := W0 m d)) $$ [Hb Hheld]
  · isplitl [Hb] <;> iassumption
  iintro ⟨Hb, Hheld⟩
  rw [wp_ret]; imodintro
  -- the region, with the call's debts carried through it
  ihave Hlv := (SparseCore.Cfg.ctx_levAts (K := K (F := F)) (EH := EH) (P := P m) κ) $$ Hctx
  ihave Hst' := (debts (F := F) d) $$ Hst
  icases Hst' with ⟨HO, Hst⟩
  iapply ((K (F := F)).wp_liftProg (D (F := F)) 𝒱 (SparseCore.T d) Set.univ none
    (.op (.customCall (Pipeline.entry (0 : Fin 1)) ()) .ret) _)
  iapply (Pipeline.RegionSeg.wp (pcfgs (F := F)) adm (pdats (V1 m)) none cellOf_inj (EP (F := F)) defs₀ 𝒱₀ (K (F := F)).L (K (F := F)).lev
    (seg m) d none (fun _ h => nomatch h) .ret) $$ [Hb Hheld Hlv Hst HO Hcells Htoks Hts]
  isplitl [Hst Hts]
  · iintro ⟨Hb, Hpost⟩
    ihave Hpost' := (Entails.of_eq (show (seg m).post d = iprop(unscopedBufs d (fun b => W2 m d (dr b))
      ∗ ∃ W, ⌜(K (F := F)).WBelow (SparseCore.T d) W 0⌝ ∗ owes (SparseCore.T d) ((K (F := F)).Otc d 0) W) from rfl)) $$ Hpost
    icases Hpost' with ⟨Hub, HO⟩
    ihave Hheld := (Entails.of_eq (Pipeline.unscopedBufs_held d (W2 m d))) $$ Hub
    rw [wp_ret]; imodintro
    -- the call
    ihave Hh := (Entails.of_eq (before_call m d)) $$ Hheld
    icases Hh with ⟨Hops, Hothers⟩
    iapply ((K (F := F)).wp_run (D (F := F)) 𝒱 (EH := EH) (P := P m) κ d 0) $$ [Hst HO Hops Hothers Hb Hts]
    isplitr; · iexact Hctx
    isplitl [Hst HO]
    · iapply Hst $$ HO
    isplitl [Hops]; · iexact Hops
    iintro ⟨Hst, Hdn⟩
    -- the slice
    iapply (StableHlo.wp_hlo_within 𝒱 (SparseCore.T d) none Set.univ (op := opCut) (S := bufs)
      (Pipeline.sub_ucRefs _ (StableHlo.unary_bufs_sub ..)) (V := W3 m d)) $$ [Hb Hdn Hothers]
    · isplitl [Hb]; · iexact Hb
      rw [after_call]
      isplitl [Hdn] <;> iassumption
    iintro ⟨Hb, Hheld⟩
    rw [wp_ret]; imodintro; imodintro
    isplitl [Hst]; · iexact Hst
    isplitl [Hheld]; · iexact Hheld
    isplitl [Hb] <;> iassumption
  isplitl [Hb]; · iexact Hb
  isplitl [Hheld HO]
  · iapply (Entails.of_eq (show iprop(unscopedBufs d (V1 m d)
      ∗ ∃ W, ⌜(K (F := F)).WBelow (SparseCore.T d) W 0⌝ ∗ owes (SparseCore.T d) ((K (F := F)).Otc d 0) W) = (seg m).pre d from rfl))
    isplitl [Hheld]
    · iapply (Entails.of_eq (show (StableHlo.held (SparseCore.T d) bufs (opBias.result (W0 m d)) : sProp 𝕄) = unscopedBufs d (V1 m d)
        from (Pipeline.unscopedBufs_held d (W1 m d)).symm)) $$ Hheld
    iexact HO
  isplitl [Hlv]; · iexact Hlv
  isplitl [Hcells]; · iexact Hcells
  iexact Htoks

/-! ## The end of the run -/

/-- What the run's end says of device `d`: every unscoped buffer holds what `W4` says. -/
def fq (d : Dev nD) (s' : Phys nD τ sig (Elt F)) : Prop := ∀ b ∈ bufs, s'.mem.mem (d, b) = W4 m d b

set_option maxRecDepth 16384 in
theorem hfin (d : Dev nD) (s' : Phys nD τ sig (Elt F)) : iprop(FIN m d ∗ SI s') ⊢ (⌜fq m d s'⌝ : sProp 𝕄) := by
  have h : ∀ b ∈ bufs, iprop(FIN m d ∗ SI s') ⊢ (⌜s'.mem.mem (d, b) = W4 m d b⌝ : sProp 𝕄) := fun b hb => by
    unfold FIN StableHlo.held
    rw [SparseCore.bigSep_erase' hb]
    iintro ⟨⟨Hx, -⟩, HSI⟩
    ihave H := (SI_pointsTo_agree (st := s') (ℓ := (d, b)) (I := Finset.univ) (q := fullShare) (f := W4 m d b)) $$ [HSI Hx]
    · isplitl [HSI] <;> iassumption
    icases H with %h2
    ipureintro; exact funext fun i => h2 i (Finset.mem_univ i)
  exact fun x hx b hb => h b hb x hx

def QC : PUnit × MemSt nD τ sig (Elt F) → Prop :=
  fun r => (∀ (d : Dev nD), ∀ b ∈ bufs, r.2.mem (d, b) = W4 m d b) ∧ r.2.sem = fun _ => 0

/-- The program runs to the end, every unscoped buffer at what `W4` says and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G (F := F)) (FIN m) (u₀ (F := F)) (sep_elim_left.trans (hu₀ m)) (fun κ d => hmain m ρ κ d) (fq m) (hfin m) (QC m)
    (fun _ h hz => ⟨h, hz⟩)

end Cert.Proof

end
-- ==== Proof.RefRun.lean ====
/-
  The reference's run: every operation of its @main on the TensorCore, the three outlined functions written out in place,
  and what the result and the arguments hold after them.
-/
module

public import proofs.«01_k».proof.Defs
public import Idealize.ShloMosaic.Lib.StableHlo.Run
public import Idealize.ShloMosaic.Lib.Quiescent
public import proofs.«01_k».proof.Proof.Gen.Kernel
public import proofs.«01_k».proof.Proof.Gen.KernelIdeal
public import proofs.«01_k».proof.Proof.Gen.ReferenceIdeal

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-! ## The values the line computes -/

/-- Row `r`, column `k`: how similar point `r` is to key `k`. -/
def scores (x : FVec F S16384x32 .f32) (keys : FVec F S8192x32 .f32) : FVec F S16384x8192 .f32 :=
  Host.dotGeneral dot_S16384x32_S32x8192_S16384x8192_1_0_0_1_n_n none x
    (transpose S32x8192 [1, 0] keys transposes_S8192x32_S32x8192_1_0)

/-- The position of each row's greatest score, the first among equals. -/
def pick (s : FVec F S16384x8192 .f32) : S16384.Idx → BitVec 32 := fun j =>
  (Host.argReduce reducer_argmax_f32_i32 s (iotaInDim S16384x8192 32 1) (constant S_ .f32 0xFF800000#32)
    (constantI S_ 32 0#32) reducesTo_S16384x8192_S16384_d1 h_S_ j).2

/-- The positions with the negative ones counted from the end, as a column. -/
def wrapped (i : S16384.Idx → BitVec 32) : S16384x1.Idx → BitVec 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 8192#32))) i)

/-- Which positions of the column name a row of the table. -/
def inRange (w : S16384x1.Idx → BitVec 32) : S16384.Idx → BitVec 1 :=
  Host.reduce IntOp.andi
    (andi (cmpi .sge w (broadcastInDim S16384x1 ![] bcast_S_S16384x1 (constantI S_ 32 0#32)))
      (cmpi .sle w (broadcastInDim S16384x1 ![0, 1] bcast_S1x1_S16384x1_0_1
        (broadcastInDim S1x1 ![1] bcast_S1_S1x1_1 (constantI S1 32 8191#32)))))
    (constantI S_ 1 1#1) reducesTo_S16384x1_S16384_d1 h_S_

/-- The table's rows at the given positions, a quiet NaN at a position out of range. -/
def taken (values : FVec F S8192x32 .f32) (i : S16384.Idx → BitVec 32) : FVec F S16384x32 .f32 :=
  select (broadcastInDim S16384x32 ![0] bcast_S16384_S16384x32_0 (inRange (wrapped i)))
    (Host.gather gather_S8192x32_S16384x1_S16384x32_1_0_n_n_0_1_132 values (wrapped i))
    (broadcastInDim S16384x32 ![] bcast_S_S16384x32 (constant S_ .f32 0x7FC00000#32))

/-- The reference's result: the taken rows times the decoder's, plus the bias. -/
def decoded (v : FVec F S16384x32 .f32) (wdec : FVec F S10x32 .f32) (bdec : FVec F S10 .f32) : FVec F S16384x10 .f32 :=
  addf (Host.dotGeneral dot_S16384x32_S32x10_S16384x10_1_0_0_1_n_n none v
      (transpose S32x10 [1, 0] wdec transposes_S10x32_S32x10_1_0))
    (broadcastInDim S16384x10 ![0, 1] bcast_S1x10_S16384x10_0_1 (broadcastInDim S1x10 ![1] bcast_S10_S1x10_1 bdec))

/-! ## The line -/

/-- The operations of @main in order. -/
abbrev ops : List (HloOp τ sig (Elt F)) :=
  [ unary main_arg1 main_v0 ((transpose S32x8192 [1, 0] · transposes_S8192x32_S32x8192_1_0) : (⟨S8192x32, .f32⟩ : BufTy).Contents (Elt F) → (⟨S32x8192, .f32⟩ : BufTy).Contents (Elt F)),
    binary main_arg0 main_v0 main_v1 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    nullary main_call0_v0 (iotaInDim S16384x8192 32 1),
    nullary main_call0_cst (constant (F := F) S_ .f32 0xFF800000#32),
    nullary main_call0_c (constantI S_ 32 0#32),
    quaternary main_v1 main_call0_v0 main_call0_cst main_call0_c main_call0_v1_0 (fun x y u v j => (Host.argReduce (F := F) reducer_argmax_f32_i32 x y u v reducesTo_S16384x8192_S16384_d1 h_S_ j).1),
    quaternary main_v1 main_call0_v0 main_call0_cst main_call0_c main_v2 (fun x y u v j => (Host.argReduce (F := F) reducer_argmax_f32_i32 x y u v reducesTo_S16384x8192_S16384_d1 h_S_ j).2),
    nullary main_call1_c (constantI S_ 32 0#32),
    unary main_call1_c main_call1_v0 (broadcastInDim S16384 ![] bcast_S_S16384),
    binary main_v2 main_call1_v0 main_call1_v1 (cmpi .slt),
    nullary main_call1_c_0 (constantI S_ 32 8192#32),
    unary main_call1_c_0 main_call1_v2 (broadcastInDim S16384 ![] bcast_S_S16384),
    binary main_v2 main_call1_v2 main_call1_v3 addi,
    ternary main_call1_v1 main_call1_v3 main_v2 main_call1_v4 select,
    unary main_call1_v4 main_call1_v5 (broadcastInDim S16384x1 ![0] bcast_S16384_S16384x1_0),
    nullary main_call1_c_1 (constantI S1 32 8191#32),
    nullary main_call1_c_2 (constantI S_ 32 0#32),
    unary main_call1_c_2 main_call1_v6 (broadcastInDim S16384x1 ![] bcast_S_S16384x1),
    binary main_call1_v5 main_call1_v6 main_call1_v7 (cmpi .sge),
    unary main_call1_c_1 main_call1_v8 (broadcastInDim S1x1 ![1] bcast_S1_S1x1_1),
    unary main_call1_v8 main_call1_v9 (broadcastInDim S16384x1 ![0, 1] bcast_S1x1_S16384x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S16384x1_S16384_d1 h_S_),
    binary main_arg2 main_call1_v5 main_call1_v13 (fun x i => Host.gather gather_S8192x32_S16384x1_S16384x32_1_0_n_n_0_1_132 x i),
    unary main_call1_v12 main_call1_v14 (broadcastInDim S16384x32 ![0] bcast_S16384_S16384x32_0),
    nullary main_call1_cst (constant (F := F) S_ .f32 0x7FC00000#32),
    unary main_call1_cst main_call1_v15 (broadcastInDim S16384x32 ![] bcast_S_S16384x32),
    ternary main_call1_v14 main_call1_v13 main_call1_v15 main_v3 select,
    unary main_arg3 main_v4 ((transpose S32x10 [1, 0] · transposes_S10x32_S32x10_1_0) : (⟨S10x32, .f32⟩ : BufTy).Contents (Elt F) → (⟨S32x10, .f32⟩ : BufTy).Contents (Elt F)),
    binary main_v3 main_v4 main_v5 ((fun l r => Host.dotGeneral dot_S16384x32_S32x10_S16384x10_1_0_0_1_n_n none l r) : (⟨S16384x32, .f32⟩ : BufTy).Contents (Elt F) → (⟨S32x10, .f32⟩ : BufTy).Contents (Elt F) → (⟨S16384x10, .f32⟩ : BufTy).Contents (Elt F)),
    unary main_arg4 main_v6 (broadcastInDim S1x10 ![1] bcast_S10_S1x10_1 : (⟨S10, .f32⟩ : BufTy).Contents (Elt F) → (⟨S1x10, .f32⟩ : BufTy).Contents (Elt F)),
    unary main_v6 main_v7 (broadcastInDim S16384x10 ![0, 1] bcast_S1x10_S16384x10_0_1 : (⟨S1x10, .f32⟩ : BufTy).Contents (Elt F) → (⟨S16384x10, .f32⟩ : BufTy).Contents (Elt F)),
    binary main_v5 main_v7 main_v8 (addf : (⟨S16384x10, .f32⟩ : BufTy).Contents (Elt F) → (⟨S16384x10, .f32⟩ : BufTy).Contents (Elt F) → (⟨S16384x10, .f32⟩ : BufTy).Contents (Elt F)) ]

set_option maxRecDepth 100000 in
/-- @main is that line, its three calls written out. -/
theorem main_eq (c : Dev nD) : main (F := F) c = seq ops := by
  simp only [main, fn_argmax.body, fn_take.body, fn_where.body]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the TensorCore only. -/
theorem ops_sub : (ops : List (HloOp τ sig (Elt F))).Forall fun op => op.bufs ⊆ tcRefs τ sig := by
  simp only [ops, List.forall_cons, List.Forall, nullary_bufs_sub, unary_bufs_sub, binary_bufs_sub, ternary_bufs_sub,
    quaternary_bufs_sub, and_self]

/-! ## What the line leaves -/

set_option maxRecDepth 100000 in
set_option maxHeartbeats 4000000 in
/-- The result buffer after the line. -/
theorem out_eq (V : Valuation τ sig (Elt F)) :
    after ops V (main_v8 : DevRef τ sig)
      = decoded (taken (V (main_arg2 : DevRef τ sig)) (pick (scores (V (main_arg0 : DevRef τ sig)) (V (main_arg1 : DevRef τ sig)))))
          (V (main_arg3 : DevRef τ sig)) (V (main_arg4 : DevRef τ sig)) := by
  after_results_simp
  rfl

set_option maxRecDepth 100000 in
set_option maxHeartbeats 4000000 in
/-- The line writes no argument. -/
theorem args_eq (V : Valuation τ sig (Elt F)) :
    after ops V (main_arg0 : DevRef τ sig) = V (main_arg0 : DevRef τ sig) ∧ after ops V (main_arg1 : DevRef τ sig) = V (main_arg1 : DevRef τ sig)
      ∧ after ops V (main_arg2 : DevRef τ sig) = V (main_arg2 : DevRef τ sig) ∧ after ops V (main_arg3 : DevRef τ sig) = V (main_arg3 : DevRef τ sig)
      ∧ after ops V (main_arg4 : DevRef τ sig) = V (main_arg4 : DevRef τ sig) := by
  refine ⟨?_, ?_, ?_, ?_, ?_⟩ <;> after_results_simp

/-- The reference's run from any memory: it ends, and every buffer holds what the line leaves in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.Ref

end
-- ==== Proof.FirstMax.lean ====
/-
  The first of a row's greatest scores, and the two ways of finding it: the kernel takes the row's maximum and then the
  least lane that attains it; the reference folds (score, position) pairs, keeping the greater score and, of equal ones,
  the lesser position. Scores are extended reals here.
-/
module

public import proofs.«01_k».proof.Proof.Arrays
public import proofs.«01_k».proof.Proof.RefRun
public import Idealize.ShloMosaic.Lib.ValueLayoutCasts
public import Idealize.ShloMosaic.PureOps.Reduce
public import Idealize.ShloMosaic.PureOps.Ideal.Laws

@[expose] public section

noncomputable section

namespace Cert.Proof

open Idealize.ShloMosaic hiding ix1 ix2 ix3
open Idealize.ShloMosaic.ValueIdx

/-- Position `k` holds the row's greatest score, and no position before it does. -/
def FirstMax (s : Fin 8192 → EReal) (k : Fin 8192) : Prop := ∀ k', s k' < s k ∨ (s k' = s k ∧ k ≤ k')

/-- There is one such position at most. -/
theorem FirstMax.unique {s : Fin 8192 → EReal} {k l : Fin 8192} (hk : FirstMax s k) (hl : FirstMax s l) : k = l := by
  rcases hk l with h | ⟨_, h⟩ <;> rcases hl k with h' | ⟨_, h'⟩
  · exact absurd h (lt_asymm h')
  · simp_all
  · simp_all
  · exact le_antisymm h h'

/-- The pattern of −∞ is the least extended real. -/
theorem bits_bot : (FloatOps.ofBits .f32 0xFF800000#32 : Ideal .f32) = (⊥ : EReal) := by
  show Ideal.ofBits .f32 0xFF800000#32 = ⊥
  simp [Ideal.ofBits, Ideal.ieee]

/-! ## The kernel's way -/

section Kernel

open Cert.KernelIdeal Cert.KernelIdeal.Gen

/-- The row index inserted: lane `k` of row `r`. -/
theorem lift_row (r : Fin 1024) (k : Fin 8192) : reduces_S1024x8192_S1024.lift (ix1 r) k = (ix2 r k : S1024x8192.Idx) := by
  funext a
  match a with
  | ⟨0, _⟩ => exact Fin.ext rfl
  | ⟨1, _⟩ => exact Fin.ext rfl

/-- An index whose row is `r` is some lane of row `r`. -/
theorem row_index {r : Fin 1024} {i : S1024x8192.Idx} (h : reduces_S1024x8192_S1024.drop i = ix1 r) :
    ∃ l : Fin 8192, i = ix2 r l :=
  ⟨i 1, ((reduces_S1024x8192_S1024.lift_drop i).symm.trans
    (congrArg (fun j => reduces_S1024x8192_S1024.lift j (i 1)) h)).trans (lift_row r (i 1))⟩

/-- A row's maximum is attained at some lane, and no lane is above it. -/
theorem rowMax (s : FVec Ideal S1024x8192 .f32) (r : Fin 1024) :
    ∃ k : Fin 8192, multiReduction .maximumf [1] S1024 s 0xFF800000#32 reduces_S1024x8192_S1024 (.inl rfl) rfl (ix1 r) = s (ix2 r k)
      ∧ ∀ k', (s (ix2 r k') : EReal) ≤ s (ix2 r k) := by
  obtain ⟨k, -, hk⟩ := Finset.exists_max_image (Finset.univ : Finset (Fin 8192)) (fun k => (s (ix2 r k) : EReal)) ⟨0, Finset.mem_univ _⟩
  refine ⟨k, ?_, fun k' => hk k' (Finset.mem_univ _)⟩
  refine (Ideal.multiReduction_maximumf_single s 0xFF800000#32 reduces_S1024x8192_S1024 (.inl rfl) rfl (ix1 r)).trans ?_
  rw [bits_bot]
  refine le_antisymm ?_ ?_
  · refine (Finset.fold_max_le _).mpr ⟨bot_le, fun k' _ => ?_⟩
    exact (le_of_eq (congrArg s (lift_row r k'))).trans (hk k' (Finset.mem_univ _))
  · refine (Finset.le_fold_max _).mpr (Or.inr ⟨k, Finset.mem_univ _, ?_⟩)
    exact le_of_eq (congrArg s (lift_row r k)).symm

/-- The row's maximum as the body spreads it over the lanes. -/
theorem spread_apply (v : FVec Ideal S1024 .f32) (r : Fin 1024) (k : Fin 8192) :
    broadcastTo S1024x8192 (shapeCast S1024x1 v shapeCasts_S1024_S1024x1) broadcasts_S1024x1_S1024x8192 (ix2 r k) = v (ix1 r) := by
  refine (broadcastTo_apply _ _ _ (ix2 r (0 : Fin 1)) fun a => ?_).trans (shapeCast_a_a1_apply v _ r 0)
  match a with
  | ⟨0, _⟩ => rfl
  | ⟨1, _⟩ => rfl

/-- The word the body takes the minimum over, at a lane: the lane's number where the score is the maximum, else 8191. -/
theorem lane_word (s m : FVec Ideal S1024x8192 .f32) (r : Fin 1024) (k : Fin 8192) :
    (select (cmpf .oeq s m) (iota .tc S1024x8192 32 [1] iota_S1024x8192_d1_w32) (broadcast S1024x8192 8191#32) (ix2 r k)).toNat
      = if (s (ix2 r k) : EReal) = m (ix2 r k) then k.val else 8191 := by
  rw [select_apply, iota_single_apply, broadcast_apply, cmpf_apply, Ideal.cmpf_def]
  have hk : (BitVec.ofNat 32 k.val).toNat = k.val := by rw [BitVec.toNat_ofNat, Nat.mod_eq_of_lt (by have := k.isLt; omega)]
  unfold Ideal.cmp
  by_cases h : (s (ix2 r k) : EReal) = m (ix2 r k)
  · rw [if_pos h]; simp only [h, decide_true]; exact hk
  · rw [if_neg h]; simp only [h, decide_false]; rfl

/-- The least lane at the row's maximum is the first maximum. -/
theorem least_first (s : FVec Ideal S1024x8192 .f32) (r : Fin 1024) :
    ∃ k : Fin 8192, (multiReductionI .minsi [1] S1024 (select (cmpf .oeq s (broadcastTo S1024x8192 (shapeCast S1024x1
        (multiReduction .maximumf [1] S1024 s 0xFF800000#32 reduces_S1024x8192_S1024 (.inl rfl) rfl) shapeCasts_S1024_S1024x1) broadcasts_S1024x1_S1024x8192))
      (iota .tc S1024x8192 32 [1] iota_S1024x8192_d1_w32) (broadcast S1024x8192 8191#32)) 2147483647#32 reduces_S1024x8192_S1024 rfl
        (ix1 r)).toNat = k.val
      ∧ FirstMax (fun k => s (ix2 r k)) k := by
  obtain ⟨k₁, hM, hle⟩ := rowMax s r
  generalize multiReduction .maximumf [1] S1024 s 0xFF800000#32 reduces_S1024x8192_S1024 (.inl rfl) rfl = M at hM ⊢
  have hw := lane_word s (broadcastTo S1024x8192 (shapeCast S1024x1 M shapeCasts_S1024_S1024x1) broadcasts_S1024x1_S1024x8192) r
  simp only [spread_apply, hM] at hw
  have hsmall := lane_small (cmpf .oeq s (broadcastTo S1024x8192 (shapeCast S1024x1 M shapeCasts_S1024_S1024x1) broadcasts_S1024x1_S1024x8192))
  generalize select (cmpf .oeq s (broadcastTo S1024x8192 (shapeCast S1024x1 M shapeCasts_S1024_S1024x1) broadcasts_S1024x1_S1024x8192))
    (iota .tc S1024x8192 32 [1] iota_S1024x8192_d1_w32) (broadcast S1024x8192 8191#32) = W at hw hsmall ⊢
  have e := multiReductionI_eq_fold .minsi W 2147483647#32 reduces_S1024x8192_S1024 rfl (ix1 r)
  generalize multiReductionI .minsi [1] S1024 W 2147483647#32 reduces_S1024x8192_S1024 rfl (ix1 r) = w at e ⊢
  obtain ⟨i, hi, hmem⟩ := fold_minsi_attained W _ (row_nonempty (ix1 r)) fun i _ => hsmall i
  have hwi : w = W i := e.trans hmem
  have hi' := row_index (Finset.mem_filter.mp hi).2
  have hlow : ∀ k : Fin 8192, w.toNat ≤ (W (ix2 r k)).toNat := fun k => by
    have h1 := fold_minsi_le 2147483647#32 W (Finset.univ.filter fun i => reduces_S1024x8192_S1024.drop i = ix1 r) (i := ix2 r k)
      (Finset.mem_filter.mpr ⟨Finset.mem_univ _, by rw [← lift_row]; exact reduces_S1024x8192_S1024.drop_lift _ k⟩)
    have h2 : (Finset.univ.filter fun i => reduces_S1024x8192_S1024.drop i = ix1 r).fold IntOp.minsi 2147483647#32 W = w := e.symm
    rw [h2, toInt_of_small (hsmall _), toInt_of_small (by rw [hwi]; exact hsmall i)] at h1
    exact_mod_cast h1
  have hlt : w.toNat < 8192 := by rw [hwi]; exact hsmall i
  have hat : (s (ix2 r ⟨w.toNat, hlt⟩) : EReal) = s (ix2 r k₁) := by
    obtain ⟨l, hl⟩ := hi'
    have h0 : w.toNat = _ := (congrArg BitVec.toNat (hwi.trans (congrArg W hl))).trans (hw l)
    by_cases hc : (s (ix2 r l) : EReal) = s (ix2 r k₁)
    · rw [if_pos hc] at h0
      rw [show (⟨w.toNat, hlt⟩ : Fin 8192) = l from Fin.ext h0]; exact hc
    · rw [if_neg hc] at h0
      have h1 := hlow k₁
      rw [hw, if_pos rfl] at h1
      rw [show (⟨w.toNat, hlt⟩ : Fin 8192) = k₁ from Fin.ext (by show w.toNat = k₁.val; have := k₁.isLt; omega)]
  refine ⟨⟨w.toNat, hlt⟩, rfl, fun k' => ?_⟩
  show (s (ix2 r k') : EReal) < s (ix2 r ⟨w.toNat, hlt⟩) ∨ _
  rw [hat]
  rcases lt_or_eq_of_le (hle k') with h | h
  · exact Or.inl h
  · refine Or.inr ⟨h.trans hat.symm, ?_⟩
    have h1 := hlow k'
    rw [hw, if_pos h] at h1
    exact h1

end Kernel

end Cert.Proof

end
-- ==== Proof.KernelValue.lean ====
/-
  What the program's result holds, over the exact floats: row `r`, lane `j` is the decoded row of the first key whose
  similarity to point `r` is greatest.
-/
module

public import proofs.«01_k».proof.Proof.Launch
public import proofs.«01_k».proof.Proof.FirstMax
public import Idealize.ShloMosaic.Lib.MatmulPlain
public import Idealize.ShloMosaic.Lib.ValueLayout
public import Idealize.ShloMosaic.Lib.ValueLayoutCasts

@[expose] public section

noncomputable section

namespace Cert.Proof

open Idealize.ShloMosaic hiding ix1 ix2 ix3
open Idealize.ShloMosaic.TcCoe
open Idealize.ShloMosaic.ValueIdx
open Cert.KernelIdeal Cert.KernelIdeal.Gen

/-! ## The two results of the claim, in one form -/

/-- How similar point `r` is to key `k`. -/
def sim {n : Nat} (x : (⟨2, ![n, 32]⟩ : Shape).Idx → EReal) (keys : (⟨2, ![8192, 32]⟩ : Shape).Idx → EReal) (r : Fin n) (k : Fin 8192) : EReal :=
  ∑ c : Fin 32, x (ix2 r c) * keys (ix2 k c)

/-- Value row `k` times the decoder's row `j`. -/
def rowTimes (values : (⟨2, ![8192, 32]⟩ : Shape).Idx → EReal) (w : (⟨2, ![10, 32]⟩ : Shape).Idx → EReal) (k : Fin 8192) (j : Fin 10) : EReal :=
  ∑ c : Fin 32, values (ix2 k c) * w (ix2 j c)

/-- Value row `k` decoded, lane `j`. -/
def decodedAt (values : (⟨2, ![8192, 32]⟩ : Shape).Idx → EReal) (w : (⟨2, ![10, 32]⟩ : Shape).Idx → EReal)
    (b : (⟨1, ![10]⟩ : Shape).Idx → EReal) (k : Fin 8192) (j : Fin 10) : EReal :=
  rowTimes values w k j + b (ix1 j)

/-! ## The two values the body stores -/

/-- The similarities of a block of points, as the body computes them. -/
theorem block_scores (x : FVec Ideal S1024x32 .f32) (keys : FVec Ideal S8192x32 .f32) (l : Fin 1024) (k : Fin 8192) :
    (matmul dot_S1024x32_S8192x32_S1024x8192_1_1_0_0_n_n none x keys (constant S1024x8192 .f32 0x00000000#32) (ix2 l k) : EReal)
      = sim x keys l k := by
  refine (Ideal.matmul_transposedRhs_apply (M := 1024) (K := 32) (N := 8192) none x keys (constant S1024x8192 .f32 0x00000000#32) l k).trans ?_
  exact (congrArg (· + sim x keys l k) Ideal.ofBits_zero_f32).trans (zero_add _)

/-- The index the body stores for a point is its first most similar key's. -/
theorem pay1_first (x : FVec Ideal S1024x32 .f32) (keys : FVec Ideal S8192x32 .f32) (l : Fin 1024) :
    ∃ k : Fin 8192, (k0_pay1 (F := Ideal) x keys (ix1 l) : BitVec 32).toNat = k.val ∧ FirstMax (sim x keys l) k := by
  obtain ⟨k, hk, hf⟩ := least_first (matmul dot_S1024x32_S8192x32_S1024x8192_1_1_0_0_n_n none x keys (constant S1024x8192 .f32 0x00000000#32)) l
  refine ⟨k, ?_, ?_⟩
  · unfold k0_pay1; exact hk
  · rw [show sim x keys l = _ from funext fun k => (block_scores x keys l k).symm]; exact hf

/-- The codebook the body stores, in its first ten lanes. -/
theorem pay2_apply (values : FVec Ideal S8192x32 .f32) (w : FVec Ideal S10x32 .f32) (b : FVec Ideal S1x10 .f32) (k : Fin 8192) (j : Fin 10) :
    (k0_pay2 (F := Ideal) values w b (ix2 k (⟨j.val, by omega⟩ : Fin 128)) : EReal)
      = rowTimes values w k j + b (ix2 (0 : Fin 1) j) := by
  unfold k0_pay2
  refine (concatenate_pair_apply_left 1 _ _ concatenates_S8192x10_S8192x118_S8192x128_d1 _ rfl (ix2 k j) fun a => ?_).trans ?_
  · match a with
    | ⟨0, _⟩ => rfl
    | ⟨1, _⟩ => rfl
  rw [addf_apply]
  refine congrArg₂ (fun u v : EReal => u + v) ?_ ?_
  · refine (Ideal.matmul_transposedRhs_apply (M := 8192) (K := 32) (N := 10) none values w (constant S8192x10 .f32 0x00000000#32) k j).trans ?_
    exact (congrArg (· + rowTimes values w k j) Ideal.ofBits_zero_f32).trans (zero_add _)
  · exact (broadcastTo_1b_ab_apply _ broadcasts_S1x10_S8192x10 k j).trans
      (shapeCast_apply b shapeCasts_S1x10_S1x10 (ix2 (0 : Fin 1) j) (ix2 (0 : Fin 1) j) rfl)

/-! ## The blocks, read at coordinates -/

section Blocks

variable (V : (c : Dev nD) → (b : Ref sig .tc) → Buf (Elt Ideal) ((c : Thread nD τ).loc b)) (c : Dev nD)

theorem blk0_apply (r : Fin 16384) (a : Fin 32) :
    blk0 V c (pointOf r) (ix2 (laneOf r) a) = (V c main_arg0 : S16384x32.Idx → EReal) (ix2 r a) := by
  refine congrArg (V c main_arg0 : S16384x32.Idx → EReal) (funext fun x => Fin.ext ?_)
  match x with
  | ⟨0, _⟩ =>
    have e : ((((cfg0.win 0).blk (pointOf r)).view.emb (ix2 (laneOf r) a : S1024x32.Idx)) 0 : Nat) = (pointOf r).val * 1024 + (laneOf r).val := by
      blk_simp [idx_0]
      rfl
    refine e.trans ?_
    show r.val / 1024 * 1024 + r.val % 1024 = r.val
    omega
  | ⟨1, _⟩ =>
    have e : ((((cfg0.win 0).blk (pointOf r)).view.emb (ix2 (laneOf r) a : S1024x32.Idx)) 1 : Nat) = a.val := by
      blk_simp [idx_0]
      rfl
    exact e

theorem blk1_eq (t : Fin cfg0.N) : blk1 V c t = (V c main_arg1 : S8192x32.Idx → EReal) := by
  funext y
  refine congrArg (V c main_arg1 : S8192x32.Idx → EReal) (funext fun x => Fin.ext ?_)
  match x with
  | ⟨0, _⟩ => exact (by blk_simp [idx_1] : ((((cfg0.win 1).blk t).view.emb (y : S8192x32.Idx)) 0 : Nat) = (y 0 : Nat))
  | ⟨1, _⟩ => exact (by blk_simp [idx_1] : ((((cfg0.win 1).blk t).view.emb (y : S8192x32.Idx)) 1 : Nat) = (y 1 : Nat))

theorem blk2_eq (t : Fin cfg0.N) : blk2 V c t = (V c main_arg2 : S8192x32.Idx → EReal) := by
  funext y
  refine congrArg (V c main_arg2 : S8192x32.Idx → EReal) (funext fun x => Fin.ext ?_)
  match x with
  | ⟨0, _⟩ => exact (by blk_simp [idx_2] : ((((cfg0.win 2).blk t).view.emb (y : S8192x32.Idx)) 0 : Nat) = (y 0 : Nat))
  | ⟨1, _⟩ => exact (by blk_simp [idx_2] : ((((cfg0.win 2).blk t).view.emb (y : S8192x32.Idx)) 1 : Nat) = (y 1 : Nat))

theorem blk3_eq (t : Fin cfg0.N) : blk3 V c t = (V c main_arg3 : S10x32.Idx → EReal) := by
  funext y
  refine congrArg (V c main_arg3 : S10x32.Idx → EReal) (funext fun x => Fin.ext ?_)
  match x with
  | ⟨0, _⟩ => exact (by blk_simp [idx_3] : ((((cfg0.win 3).blk t).view.emb (y : S10x32.Idx)) 0 : Nat) = (y 0 : Nat))
  | ⟨1, _⟩ => exact (by blk_simp [idx_3] : ((((cfg0.win 3).blk t).view.emb (y : S10x32.Idx)) 1 : Nat) = (y 1 : Nat))

theorem blk4_eq (t : Fin cfg0.N) : blk4 V c t = (V c main_v0 : S1x10.Idx → EReal) := by
  funext y
  refine congrArg (V c main_v0 : S1x10.Idx → EReal) (funext fun x => Fin.ext ?_)
  match x with
  | ⟨0, _⟩ => exact (by blk_simp [idx_4] : ((((cfg0.win 4).blk t).view.emb (y : S1x10.Idx)) 0 : Nat) = (y 0 : Nat))
  | ⟨1, _⟩ => exact (by blk_simp [idx_4] : ((((cfg0.win 4).blk t).view.emb (y : S1x10.Idx)) 1 : Nat) = (y 1 : Nat))

/-- Word `r` of the index list is point `r`'s first most similar key. -/
theorem idxOut_first (r : Fin 16384) :
    ∃ k : Fin 8192, ((idxOut V c : S16384.Idx → BitVec 32) (ix1 r)).toNat = k.val
      ∧ FirstMax (sim (V c main_arg0 : S16384x32.Idx → EReal) (V c main_arg1 : S8192x32.Idx → EReal) r) k := by
  obtain ⟨k, hk, hf⟩ := pay1_first (blk0 V c (pointOf r)) (blk1 V c (pointOf r)) (laneOf r)
  refine ⟨k, ?_, ?_⟩
  · refine (congrArg BitVec.toNat (idxOut_apply V c r)).trans ?_
    unfold nearest
    exact hk
  · refine Eq.mp (congrArg (fun s => FirstMax s k) (funext fun k' => Finset.sum_congr rfl fun a _ => ?_)) hf
    exact congrArg₂ (fun u v : EReal => u * v) (blk0_apply V c r a) (congrFun (blk1_eq V c (pointOf r)) _)

/-- The codebook's row `k` in its first ten lanes. -/
theorem codebook_apply (k : Fin 8192) (j : Fin 10) :
    (codebook V c (ix2 k (⟨j.val, by omega⟩ : Fin 128)) : EReal)
      = rowTimes (V c main_arg2 : S8192x32.Idx → EReal) (V c main_arg3 : S10x32.Idx → EReal) k j
        + (V c main_v0 : S1x10.Idx → EReal) (ix2 (0 : Fin 1) j) := by
  unfold codebook
  refine (pay2_apply _ _ _ k j).trans ?_
  rw [blk2_eq, blk3_eq, blk4_eq]

end Blocks

/-! ## The program's result -/

section Result

variable (m : (ℓ : Loc nD τ sig) → Buf (Elt Ideal) ℓ) (d : Dev nD)

/-- The region is entered with the four arguments it reads as they were. -/
theorem V1_arg (b : Ref sig .tc) (h : b ≠ main_v0) : V1 m d b = m (d, dr b) := by
  unfold V1 W1 opBias
  rw [StableHlo.reshape_result_ne _ _ _ _ _ _ _ h]; rfl

/-- And with the bias as a row. -/
theorem V1_bias (j : Fin 10) : (V1 m d main_v0 : S1x10.Idx → EReal) (ix2 (0 : Fin 1) j) = (m (d, dr main_arg4) : S10.Idx → EReal) (ix1 j) := by
  unfold V1 W1 opBias
  rw [StableHlo.reshape_result']
  exact shapeCast_a_1a_apply (m (d, dr main_arg4) : S10.Idx → EReal) shapeCasts_S10_S1x10 0 j

/-- Row `r`, lane `j` of the result: value row `k` decoded, `k` the first key most similar to point `r`. -/
theorem result_apply (r : Fin 16384) (j : Fin 10) :
    ∃ k : Fin 8192, FirstMax (sim (m (d, dr main_arg0) : S16384x32.Idx → EReal) (m (d, dr main_arg1) : S8192x32.Idx → EReal) r) k
      ∧ (W4 m d (dr main_v3) : S16384x10.Idx → EReal) (ix2 r j)
        = decodedAt (m (d, dr main_arg2) : S8192x32.Idx → EReal) (m (d, dr main_arg3) : S10x32.Idx → EReal) (m (d, dr main_arg4) : S10.Idx → EReal) k j := by
  obtain ⟨k, hk, hf⟩ := idxOut_first (V1 m) d r
  rw [V1_arg m d main_arg0 (by decide), V1_arg m d main_arg1 (by decide)] at hf
  refine ⟨k, hf, ?_⟩
  refine (congrFun (W4_out m d) (ix2 r j)).trans ?_
  refine (extractStridedSlice_apply _ _ slices_S16384x128_S16384x10_0_0 (ix2 r j) (ix2 r (⟨j.val, by omega⟩ : Fin 128)) fun a => ?_).trans ?_
  · match a with
    | ⟨0, _⟩ => exact (Nat.zero_add _).symm
    | ⟨1, _⟩ => exact (Nat.zero_add _).symm
  have hrow : rowAt (idxOut (V1 m) d) r = k := Fin.ext (by
    show ((idxOut (V1 m) d : S16384.Idx → BitVec 32) (ix1 r)).toNat % 8192 = k.val
    rw [hk, Nat.mod_eq_of_lt k.isLt])
  show (tabOut (V1 m) d : S8192x128.Idx → EReal) (ix2 (rowAt (idxOut (V1 m) d) r) (⟨j.val, by omega⟩ : Fin 128)) = _
  rw [hrow, tabOut_eq]
  refine (codebook_apply (V1 m) d k j).trans ?_
  rw [V1_arg m d main_arg2 (by decide), V1_arg m d main_arg3 (by decide), V1_bias]
  rfl

end Result

end Cert.Proof

end
-- ==== Proof.RefMax.lean ====
/-
  The reference's way of finding the first of a row's greatest scores: a fold over (score, position) pairs that keeps the
  greater score and, of equal ones, the lesser position.
-/
module

public import proofs.«01_k».proof.Proof.FirstMax

@[expose] public section

noncomputable section

namespace Cert.Proof

open Idealize.ShloMosaic hiding ix1 ix2 ix3
open Idealize.ShloMosaic.ValueIdx
open Cert.ReferenceIdeal Cert.ReferenceIdeal.Gen

/-- A pair is no better than another: its score is less, or equal at no lesser a position. -/
def NoBetter (q p : EReal × BitVec 32) : Prop := q.1 < p.1 ∨ (q.1 = p.1 ∧ p.2.toInt ≤ q.2.toInt)

theorem NoBetter.refl (p : EReal × BitVec 32) : NoBetter p p := Or.inr ⟨rfl, le_refl _⟩

theorem NoBetter.trans {a b c : EReal × BitVec 32} (h : NoBetter a b) (h' : NoBetter b c) : NoBetter a c := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩

/-- The reference's step on two pairs gives one of the two, and neither is better than it. -/
theorem step_best (a b : EReal × BitVec 32) :
    (reducer_argmax_f32_i32 (F := Ideal) a b = a ∨ reducer_argmax_f32_i32 (F := Ideal) a b = b)
      ∧ NoBetter a (reducer_argmax_f32_i32 (F := Ideal) a b) ∧ NoBetter b (reducer_argmax_f32_i32 (F := Ideal) a b) := by
  obtain ⟨x, i⟩ := a
  obtain ⟨y, j⟩ := b
  have key : reducer_argmax_f32_i32 (F := Ideal) (x, i) (y, j)
      = if y < x ∨ (x = y ∧ i.toInt < j.toInt) then ((x, i) : EReal × BitVec 32) else (y, j) := by
    unfold reducer_argmax_f32_i32
    simp only [Ideal.cmpf_def, Ideal.cmp, IntOp.cmpi, BitVec.slt_iff_toInt_lt]
    by_cases h1 : y < x
    · have h2 : x ≠ y := ne_of_gt h1
      simp [h1, h2, IntOp.ori, IntOp.andi, Scalar.select]
    · by_cases h2 : x = y
      · subst h2
        by_cases h3 : i.toInt < j.toInt
        · have h4 : i.slt j = true := BitVec.slt_iff_toInt_lt.mpr h3
          simp [h3, h4, IntOp.ori, IntOp.andi, Scalar.select]
        · have h4 : i.slt j = false := by
            rw [← Bool.not_eq_true, BitVec.slt_iff_toInt_lt]; exact h3
          simp [h3, h4, IntOp.ori, IntOp.andi, Scalar.select]
      · simp [h1, h2, IntOp.ori, IntOp.andi, Scalar.select]
  rw [key]
  split
  · rename_i h
    refine ⟨Or.inl rfl, NoBetter.refl _, ?_⟩
    rcases h with h | ⟨h, k⟩
    · exact Or.inl h
    · exact Or.inr ⟨h.symm, le_of_lt k⟩
  · rename_i h
    rw [not_or, not_and_or] at h
    refine ⟨Or.inr rfl, ?_, NoBetter.refl _⟩
    rcases lt_or_eq_of_le (not_lt.mp h.1) with h1 | h1
    · exact Or.inl h1
    · rcases h.2 with h2 | h2
      · exact absurd h1 h2
      · exact Or.inr ⟨h1, not_lt.mp h2⟩

/-- The fold gives the initial pair or one of the list, and none of those is better than it. -/
theorem fold_best (l : List (EReal × BitVec 32)) (p : EReal × BitVec 32) :
    (l.foldl (reducer_argmax_f32_i32 (F := Ideal)) p = p ∨ l.foldl (reducer_argmax_f32_i32 (F := Ideal)) p ∈ l)
      ∧ NoBetter p (l.foldl (reducer_argmax_f32_i32 (F := Ideal)) p)
      ∧ ∀ q ∈ l, NoBetter q (l.foldl (reducer_argmax_f32_i32 (F := Ideal)) p) := by
  induction l generalizing p with
  | nil => exact ⟨Or.inl rfl, NoBetter.refl _, fun q hq => absurd hq List.not_mem_nil⟩
  | cons a l ih =>
    obtain ⟨h1, h2, h3⟩ := step_best p a
    obtain ⟨g1, g2, g3⟩ := ih (reducer_argmax_f32_i32 (F := Ideal) p a)
    rw [List.foldl_cons]
    refine ⟨?_, h2.trans g2, fun q hq => ?_⟩
    · rcases g1 with g | g
      · rcases h1 with h | h
        · exact Or.inl (g.trans h)
        · exact Or.inr (by rw [g, h]; exact List.mem_cons_self)
      · exact Or.inr (List.mem_cons_of_mem _ g)
    · rcases List.mem_cons.mp hq with rfl | hq
      · exact h3.trans g2
      · exact g3 q hq

/-- The shape fact that names the inserted coordinate. -/
theorem reduces_rows : S16384x8192.Reduces [1] S16384 := by decide

/-- The row index inserted: position `k` of row `r`. -/
theorem lift_ref (r : Fin 16384) (k : Fin 8192) : reduces_rows.lift (ix1 r) k = (ix2 r k : S16384x8192.Idx) := by
  funext a
  match a with
  | ⟨0, _⟩ => exact Fin.ext rfl
  | ⟨1, _⟩ => exact Fin.ext rfl

section Fold

variable (s : FVec Ideal S16384x8192 .f32) (y : S16384x8192.Idx → BitVec 32) (hy : ∀ i, y i = BitVec.ofNat 32 (i 1).val)
  (ix : S_.Idx → Ideal .f32) (iy : S_.Idx → BitVec 32)

include hy in
/-- The pairs that row `r`'s fold takes are its scores with their positions. -/
theorem mem_fiber (r : Fin 16384) (p : EReal × BitVec 32) :
    p ∈ Host.argReduceFiber s y reducesTo_S16384x8192_S16384_d1 (ix1 r)
      ↔ ∃ k : Fin 8192, p = (s (ix2 r k), BitVec.ofNat 32 k.val) := by
  unfold Host.argReduceFiber
  simp only [List.mem_map, List.mem_filter, List.mem_finRange, true_and, decide_eq_true_eq]
  rw [Shape.ReducesTo.drop_eq_drop reducesTo_S16384x8192_S16384_d1 reduces_rows]
  constructor
  · rintro ⟨n, hn, rfl⟩
    generalize S16384x8192.rowMajor.symm n = i at hn ⊢
    have e : i = ix2 r (i 1) :=
      ((reduces_rows.lift_drop _).symm.trans (congrArg (fun j => reduces_rows.lift j (i 1)) hn)).trans (lift_ref r _)
    exact ⟨i 1, Prod.ext (congrArg s e) (hy i)⟩
  · rintro ⟨k, rfl⟩
    refine ⟨S16384x8192.rowMajor (ix2 r k), ?_, ?_⟩
    · rw [Equiv.symm_apply_apply, ← lift_ref]; exact reduces_rows.drop_lift _ k
    · rw [Equiv.symm_apply_apply]; exact Prod.ext rfl (hy _)

/-- The reference's reduction at a row is the fold over the row's pairs. -/
theorem reduction_eq (j : S16384.Idx) :
    Host.argReduce reducer_argmax_f32_i32 s y ix iy reducesTo_S16384x8192_S16384_d1 h_S_ j
      = (Host.argReduceFiber s y reducesTo_S16384x8192_S16384_d1 j).foldl (reducer_argmax_f32_i32 (F := Ideal))
          (ix (Shape.Idx.first h_S_), iy (Shape.Idx.first h_S_)) :=
  (congrFun (Ideal.argReduce_eq_reduce2 reducer_argmax_f32_i32 s y ix iy reducesTo_S16384x8192_S16384_d1 h_S_) j).trans
    (Host.reduce2_eq_foldl_fiber reducer_argmax_f32_i32 s y ix iy reducesTo_S16384x8192_S16384_d1 h_S_ j)

include hy in
/-- From (−∞, 0) the reduction's position is the row's first maximum. -/
theorem reduction_first (hx : ix (Shape.Idx.first h_S_) = (⊥ : EReal)) (hi : iy (Shape.Idx.first h_S_) = 0#32) (r : Fin 16384) :
    ∃ k : Fin 8192, (Host.argReduce reducer_argmax_f32_i32 s y ix iy reducesTo_S16384x8192_S16384_d1 h_S_ (ix1 r)).2 = BitVec.ofNat 32 k.val
      ∧ FirstMax (fun k => s (ix2 r k)) k := by
  have e := reduction_eq s y ix iy (ix1 r)
  have hm := mem_fiber s y hy r
  rw [hx, hi] at e
  generalize Host.argReduce reducer_argmax_f32_i32 s y ix iy reducesTo_S16384x8192_S16384_d1 h_S_ (ix1 r) = w at e ⊢
  generalize Host.argReduceFiber s y reducesTo_S16384x8192_S16384_d1 (ix1 r) = l at e hm
  obtain ⟨h1, h2, h3⟩ := fold_best l ((⊥ : EReal), 0#32)
  generalize l.foldl (reducer_argmax_f32_i32 (F := Ideal)) ((⊥ : EReal), 0#32) = p at e h1 h2 h3
  have hall : ∀ k : Fin 8192, NoBetter (s (ix2 r k), BitVec.ofNat 32 k.val) p := fun k => h3 _ ((hm _).mpr ⟨k, rfl⟩)
  have hp : ∃ k : Fin 8192, p = (s (ix2 r k), BitVec.ofNat 32 k.val) := by
    rcases h1 with rfl | h1
    · rcases hall 0 with h | ⟨h, _⟩
      · exact absurd h not_lt_bot
      · exact ⟨0, Prod.ext h.symm rfl⟩
    · exact (hm _).mp h1
  obtain ⟨k, rfl⟩ := hp
  refine ⟨k, congrArg Prod.snd e, fun k' => ?_⟩
  have small : ∀ l : Fin 8192, (BitVec.ofNat 32 l.val).toInt = l.val := fun l => by
    have hl := l.isLt
    have h : (BitVec.ofNat 32 l.val).toNat = l.val := by rw [BitVec.toNat_ofNat, Nat.mod_eq_of_lt (by omega)]
    rw [toInt_of_small (by omega), h]
  rcases hall k' with h | ⟨h, hk⟩
  · exact Or.inl h
  · refine Or.inr ⟨h, ?_⟩
    rw [small, small] at hk
    exact_mod_cast hk

end Fold

/-- The positions of the scores, as words. -/
theorem positions : ∀ i, iotaInDim S16384x8192 32 1 i = BitVec.ofNat 32 (i 1).val := fun _ => rfl

/-- The reduction's initial score is −∞. -/
theorem initial_score : (constant S_ .f32 0xFF800000#32 : FVec Ideal S_ .f32) (Shape.Idx.first h_S_) = (⊥ : EReal) := bits_bot

/-- Its initial position is zero. -/
theorem initial_position : constantI S_ 32 0#32 (Shape.Idx.first h_S_) = 0#32 := rfl

/-- The reference's pick as a function: the reduction's second component. -/
theorem pick_eq (s : FVec Ideal S16384x8192 .f32) :
    Ref.pick s = fun j => (Host.argReduce reducer_argmax_f32_i32 s (iotaInDim S16384x8192 32 1) (constant S_ .f32 0xFF800000#32)
      (constantI S_ 32 0#32) reducesTo_S16384x8192_S16384_d1 h_S_ j).2 := rfl

/-- The reduction from the printed initial pair finds the row's first maximum. -/
theorem printed_first (s : FVec Ideal S16384x8192 .f32) (r : Fin 16384) :
    ∃ k : Fin 8192, (Host.argReduce reducer_argmax_f32_i32 s (iotaInDim S16384x8192 32 1) (constant S_ .f32 0xFF800000#32)
        (constantI S_ 32 0#32) reducesTo_S16384x8192_S16384_d1 h_S_ (ix1 r)).2 = BitVec.ofNat 32 k.val
      ∧ FirstMax (fun k => s (ix2 r k)) k :=
  reduction_first s (iotaInDim S16384x8192 32 1) positions (constant S_ .f32 0xFF800000#32) (constantI S_ 32 0#32)
    initial_score initial_position r

/-- The position the reference picks is the row's first maximum. -/
theorem pick_first (s : FVec Ideal S16384x8192 .f32) (r : Fin 16384) :
    ∃ k : Fin 8192, Ref.pick s (ix1 r) = BitVec.ofNat 32 k.val ∧ FirstMax (fun k => s (ix2 r k)) k := by
  obtain ⟨k, h, hk⟩ := printed_first s r
  exact ⟨k, (congrFun (pick_eq s) (ix1 r)).trans h, hk⟩

end Cert.Proof

end
-- ==== Proof.RefValue.lean ====
/-
  What the reference's result holds, over the exact floats: row `r`, column `j` is the decoded row of the first key whose
  similarity to point `r` is greatest, the same as the program's.
-/
module

public import proofs.«01_k».proof.Proof.KernelValue
public import proofs.«01_k».proof.Proof.RefMax
public import Idealize.ShloMosaic.Lib.StackMember
public import Idealize.ShloMosaic.Lib.KernelVsHost
public import Idealize.ShloMosaic.Lib.IdealHost

@[expose] public section

noncomputable section

namespace Cert.Proof.Ref

open Idealize.ShloMosaic hiding ix1 ix2 ix3
open Idealize.ShloMosaic.ValueIdx
open Cert.ReferenceIdeal Cert.ReferenceIdeal.Gen

/-- The column's second axis is dropped. -/
theorem reduces_col : (S16384x1 : Shape).Reduces [1] S16384 := by decide

/-! ## The similarities -/

theorem scores_apply (x : FVec Ideal S16384x32 .f32) (keys : FVec Ideal S8192x32 .f32) (r : Fin 16384) (k : Fin 8192) :
    (scores x keys (ix2 r k) : EReal) = sim x keys r k := by
  unfold scores
  refine (StackMember.dotGeneral_plain_apply (m := 16384) (k := 32) (n := 8192) none x (transpose S32x8192 [1, 0] keys transposes_S8192x32_S32x8192_1_0) r k).trans ?_
  exact Finset.sum_congr rfl fun c _ => congrArg (fun v : EReal => (x (ix2 r c) : EReal) * v) (transpose_ix2_apply keys transposes_S8192x32_S32x8192_1_0 c k)

/-! ## The lookup, at a position that names a row -/

/-- A row's number as a word: what it reads as, and how it compares. -/
theorem word_toInt (k : Fin 8192) : (BitVec.ofNat 32 k.val).toInt = k.val := by
  have h : (BitVec.ofNat 32 k.val).toNat = k.val := by rw [BitVec.toNat_ofNat, Nat.mod_eq_of_lt (by have := k.isLt; omega)]
  rw [toInt_of_small (by rw [h]; exact k.isLt), h]

theorem word_not_neg (k : Fin 8192) : IntOp.cmpi .slt (BitVec.ofNat 32 k.val) 0#32 = 0#1 := by
  have h : (BitVec.ofNat 32 k.val).slt 0#32 = false := by
    rw [← Bool.not_eq_true, BitVec.slt_iff_toInt_lt, word_toInt]
    have : (0#32 : BitVec 32).toInt = 0 := by decide
    omega
  simp [IntOp.cmpi, h]

theorem word_ge (k : Fin 8192) : IntOp.cmpi .sge (BitVec.ofNat 32 k.val) 0#32 = 1#1 := by
  have h : (0#32 : BitVec 32).sle (BitVec.ofNat 32 k.val) = true := by
    rw [BitVec.sle_iff_toInt_le, word_toInt]
    have : (0#32 : BitVec 32).toInt = 0 := by decide
    omega
  simp [IntOp.cmpi, h]

theorem word_le (k : Fin 8192) : IntOp.cmpi .sle (BitVec.ofNat 32 k.val) 8191#32 = 1#1 := by
  have h : (BitVec.ofNat 32 k.val).sle 8191#32 = true := by
    rw [BitVec.sle_iff_toInt_le, word_toInt]
    have : (8191#32 : BitVec 32).toInt = 8191 := by decide
    have := k.isLt
    omega
  simp [IntOp.cmpi, h]

/-- The lookup's dimension numbers: whole rows, one word each. -/
abbrev lookup : GatherDims S8192x32 S16384x1 S16384x32 := gather_S8192x32_S16384x1_S16384x32_1_0_n_n_0_1_132

section Lookup

variable (i : S16384.Idx → BitVec 32) (r : Fin 16384) (k : Fin 8192) (hi : i (ix1 r) = BitVec.ofNat 32 k.val)

include hi

/-- It is not negative, so it is not counted from the end. -/
theorem wrapped_apply (a : Fin 1) : wrapped i (ix2 r a) = BitVec.ofNat 32 k.val := by
  unfold wrapped
  refine (broadcastInDim_apply ![0] bcast_S16384_S16384x1_0 _ (ix2 r a) (ix1 r) fun b => ?_).trans ?_
  · match b with
    | ⟨0, _⟩ => rfl
  rw [select_apply, cmpi_apply, broadcastInDim_scalar_apply, hi]
  exact congrArg (fun b => Scalar.select b _ (BitVec.ofNat 32 k.val)) (word_not_neg k)

/-- It is in range. -/
theorem inRange_apply : inRange (wrapped i) (ix1 r) = 1#1 := by
  unfold inRange
  refine (Host.reduce_eq_fold_single IntOp.andi _ _ reducesTo_S16384x1_S16384_d1 reduces_col h_S_ (ix1 r)).trans ?_
  refine (Finset.fold_singleton ..).trans ?_
  have e : (reduces_col.lift (ix1 r) (0 : Fin 1) : S16384x1.Idx) = ix2 r (0 : Fin 1) := by
    funext a
    match a with
    | ⟨0, _⟩ => rfl
    | ⟨1, _⟩ => rfl
  show IntOp.andi (andi _ _ (reduces_col.lift (ix1 r) (0 : Fin 1))) 1#1 = 1#1
  rw [e, andi_apply, cmpi_apply, cmpi_apply, wrapped_apply i r k hi, broadcastInDim_scalar_apply]
  show IntOp.andi (IntOp.andi (IntOp.cmpi .sge (BitVec.ofNat 32 k.val) 0#32) (IntOp.cmpi .sle (BitVec.ofNat 32 k.val) 8191#32)) 1#1 = 1#1
  rw [word_ge, word_le]
  rfl

omit hi in
/-- The one word the lookup of row `r` reads. -/
theorem lookup_word (c : Fin 32) (n : Fin lookup.startIndexMap.length) : lookup.siIdx (ix2 r c) n = ix2 r (0 : Fin 1) := by
  funext b
  match b with
  | ⟨0, _⟩ => rfl
  | ⟨1, _⟩ => exact Subsingleton.elim (α := Fin 1) _ _

/-- The row it reads: the word's, which the lookup's clamping leaves alone. -/
theorem lookup_row (c : Fin 32) : lookup.start (ix2 r c) (wrapped i) (0 : Fin 2) = k.val := by
  have hm : (0 : Fin 2) ∈ lookup.startIndexMap := List.mem_singleton.mpr rfl
  refine (dif_pos hm).trans ?_
  rw [lookup_word r c, wrapped_apply i r k hi, word_toInt]
  show min (k.val : Int).toNat 8191 = k.val
  have := k.isLt
  omega

omit hi in
/-- The lane it reads: the result's. -/
theorem lookup_lane (c : Fin 32) : lookup.offCoord (ix2 r c) (1 : Fin 2) = c.val := by
  have hm : (1 : Fin 2) ∈ lookup.sKept := (GatherDims.mem_sKept lookup _).mpr ⟨by decide, by decide⟩
  refine (dif_pos hm).trans ?_
  rfl

/-- The gather reads the row it names. -/
theorem gathered_apply {α : Type} (values : S8192x32.Idx → α) (c : Fin 32) :
    Host.gather lookup values (wrapped i) (ix2 r c) = values (ix2 k c) := by
  refine congrArg values (funext fun a => Fin.ext ?_)
  show lookup.start (ix2 r c) (wrapped i) a + lookup.batchCoord (ix2 r c) a + lookup.offCoord (ix2 r c) a = (ix2 k c a).val
  rw [GatherDims.batchCoord_eq_zero lookup _ a List.not_mem_nil, Nat.add_zero]
  have h : a = (0 : Fin 2) ∨ a = (1 : Fin 2) := by revert a; exact (by decide : ∀ a : Fin 2, a = 0 ∨ a = 1)
  rcases h with rfl | rfl
  · rw [lookup_row i r k hi c, GatherDims.offCoord_eq_zero lookup _ _ fun h => absurd ((GatherDims.mem_sKept lookup _).mp h).1 (by decide)]
    rfl
  · have h0 : lookup.start (ix2 r c) (wrapped i) (1 : Fin 2) = 0 := dif_neg (by decide)
    rw [h0, lookup_lane r c, Nat.zero_add]

omit hi in
/-- A bit per row, spread over the row's lanes. -/
theorem spread_bit (p : S16384.Idx → BitVec 1) (c : Fin 32) :
    broadcastInDim S16384x32 ![0] bcast_S16384_S16384x32_0 p (ix2 r c) = p (ix1 r) := by
  refine broadcastInDim_apply ![0] bcast_S16384_S16384x32_0 p (ix2 r c) (ix1 r) fun b => ?_
  match b with
  | ⟨0, _⟩ => rfl

/-- So the row taken is the table's, not the filler. -/
theorem taken_apply (values : FVec Ideal S8192x32 .f32) (c : Fin 32) : (taken values i (ix2 r c) : EReal) = values (ix2 k c) := by
  unfold taken
  rw [select_apply, spread_bit, inRange_apply i r k hi, select_one]
  exact gathered_apply i r k hi values c

end Lookup

/-! ## The result -/

theorem decoded_apply (v : FVec Ideal S16384x32 .f32) (w : FVec Ideal S10x32 .f32) (b : FVec Ideal S10 .f32) (r : Fin 16384) (j : Fin 10) :
    (decoded v w b (ix2 r j) : EReal) = (∑ c : Fin 32, (v (ix2 r c) : EReal) * (w (ix2 j c) : EReal)) + b (ix1 j) := by
  unfold decoded
  rw [addf_apply]
  refine congrArg₂ (fun u v : EReal => u + v) ?_ ?_
  · refine (StackMember.dotGeneral_plain_apply (m := 16384) (k := 32) (n := 10) none v (transpose S32x10 [1, 0] w transposes_S10x32_S32x10_1_0) r j).trans ?_
    exact Finset.sum_congr rfl fun c _ => congrArg (fun u : EReal => (v (ix2 r c) : EReal) * u) (transpose_ix2_apply w transposes_S10x32_S32x10_1_0 c j)
  · refine (broadcastInDim_oneRow_apply bcast_S1x10_S16384x10_0_1 _ r j).trans ?_
    refine broadcastInDim_apply ![1] bcast_S10_S1x10_1 b (ix2 (0 : Fin 1) j) (ix1 j) fun a => ?_
    match a with
    | ⟨0, _⟩ => rfl

/-- Row `r`, column `j` of the reference's result: value row `k` decoded, `k` the first key most similar to point `r`. -/
theorem result_apply (x : FVec Ideal S16384x32 .f32) (keys values : FVec Ideal S8192x32 .f32) (w : FVec Ideal S10x32 .f32) (b : FVec Ideal S10 .f32)
    (r : Fin 16384) (j : Fin 10) :
    ∃ k : Fin 8192, FirstMax (sim x keys r) k ∧ (decoded (taken values (pick (scores x keys))) w b (ix2 r j) : EReal) = decodedAt values w b k j := by
  obtain ⟨k, hk, hf⟩ := pick_first (scores x keys) r
  refine ⟨k, ?_, ?_⟩
  · rw [show sim x keys r = _ from funext fun k => (scores_apply x keys r k).symm]; exact hf
  · refine (decoded_apply _ w b r j).trans ?_
    refine congrArg (fun u : EReal => u + (b (ix1 j) : EReal)) (Finset.sum_congr rfl fun c _ => ?_)
    exact congrArg (fun u : EReal => u * (w (ix2 j c) : EReal)) (taken_apply _ r k hk values c)

end Cert.Proof.Ref

end
-- ==== Proof.Frames.lean ====
/-
  The three frames: each program ends from any memory, leaves its arguments as they were and every counter at zero.
-/
module

public import proofs.«01_k».proof.Proof.Launch
public import proofs.«01_k».proof.Proof.RefRun

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-! ## The program -/

section Program

open Cert.KernelIdeal Cert.KernelIdeal.Gen

variable {F : FTy → Type} [FloatOps F]

/-- What the run's end says of the five arguments: each is what it was. -/
theorem args_kept (m : (ℓ : Loc nD τ sig) → Buf (Elt F) ℓ) (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.1 c (dr main_arg0) (mem_bufs main_arg0 rfl)).trans (W4_kept m c main_arg0 (by decide) (by decide) (by decide) (by decide) (by decide)),
   (h.1 c (dr main_arg1) (mem_bufs main_arg1 rfl)).trans (W4_kept m c main_arg1 (by decide) (by decide) (by decide) (by decide) (by decide)),
   (h.1 c (dr main_arg2) (mem_bufs main_arg2 rfl)).trans (W4_kept m c main_arg2 (by decide) (by decide) (by decide) (by decide) (by decide)),
   (h.1 c (dr main_arg3) (mem_bufs main_arg3 rfl)).trans (W4_kept m c main_arg3 (by decide) (by decide) (by decide) (by decide) (by decide)),
   (h.1 c (dr main_arg4) (mem_bufs main_arg4 rfl)).trans (W4_kept m c main_arg4 (by decide) (by decide) (by decide) (by decide) (by decide))⟩

/-- The program's text ends, from any memory and over any float values, with its arguments unchanged and its counters at zero. -/
theorem run_kept [∀ e, Nonempty (Elt F e)] (m : (ℓ : Loc nD τ sig) → Buf (Elt F) ℓ) (g : Dev nD → PrngReg) :
    θ_run (defs (F := F)) (threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_kept m r h, h.2⟩) (run_main m g)

end Program

/-- The idealized program's frame. -/
theorem frame_ideal : Cert.quiescent_KernelIdeal := fun m g _ => run_kept m g

set_option maxRecDepth 100000 in
set_option maxHeartbeats 4000000 in
set_option smartUnfolding false in
/-- The printed program's frame: the idealized program's text is the printed one's, word for word. -/
theorem frame_printed : Cert.quiescent_Kernel := fun m g _ => run_kept (F := Bits) m g

/-! ## The reference -/

/-- The reference's frame; it declares no semaphore. -/
theorem frame_reference : Cert.quiescent_ReferenceIdeal := fun m g _ =>
  (θ_run Cert.ReferenceIdeal.defs _ _).mono (fun r h => ⟨fun c =>
      have e := Ref.args_eq (StableHlo.launchContents m c)
      ⟨(h c _).trans e.1, (h c _).trans e.2.1, (h c _).trans e.2.2.1, (h c _).trans e.2.2.2.1, (h c _).trans e.2.2.2.2⟩,
      Idealize.ShloMosaic.sem_eq_zero_of_no_sems (by decide) r.2⟩)
    (Ref.run_main m g)

end Cert.Proof

end
-- ==== Proof.Algebraic.lean ====
/-
  The value claim: over the exact floats the program and the reference end with equal results.
-/
module

public import proofs.«01_k».proof.Proof.RefValue
public import proofs.«01_k».proof.Proof.Frames

@[expose] public section

noncomputable section

namespace Cert.Proof

open Idealize.ShloMosaic hiding ix1 ix2 ix3
open Idealize.ShloMosaic.TcCoe
open Idealize.ShloMosaic.ValueIdx
open Idealize.SL.Sem

attribute [local instance] Cert.Kernel.Gen.facts Cert.KernelIdeal.Gen.facts Cert.ReferenceIdeal.Gen.facts

/-- The two results agree everywhere: the first most similar key is one key. -/
theorem results_agree (m : (ℓ : Loc Cert.KernelIdeal.nD Cert.KernelIdeal.τ Cert.KernelIdeal.sig) → Buf (Elt Ideal) ℓ) (d : Dev Cert.KernelIdeal.nD)
    (x : FVec Ideal Cert.ReferenceIdeal.S16384x32 .f32) (keys values : FVec Ideal Cert.ReferenceIdeal.S8192x32 .f32)
    (w : FVec Ideal Cert.ReferenceIdeal.S10x32 .f32) (b : FVec Ideal Cert.ReferenceIdeal.S10 .f32)
    (h0 : x = m (d, dr Cert.KernelIdeal.main_arg0)) (h1 : keys = m (d, dr Cert.KernelIdeal.main_arg1))
    (h2 : values = m (d, dr Cert.KernelIdeal.main_arg2)) (h3 : w = m (d, dr Cert.KernelIdeal.main_arg3))
    (h4 : b = m (d, dr Cert.KernelIdeal.main_arg4)) :
    Ref.decoded (Ref.taken values (Ref.pick (Ref.scores x keys))) w b = W4 m d (dr Cert.KernelIdeal.main_v3) := by
  funext p
  obtain ⟨r, j, rfl⟩ : ∃ (r : Fin 16384) (j : Fin 10), p = ix2 r j := ⟨p 0, p 1, by
    funext a
    match a with
    | ⟨0, _⟩ => rfl
    | ⟨1, _⟩ => rfl⟩
  obtain ⟨k, hf, hv⟩ := Ref.result_apply x keys values w b r j
  obtain ⟨k', hf', hv'⟩ := result_apply m d r j
  subst h0 h1 h2 h3 h4
  obtain rfl : k = k' := hf.unique hf'
  exact hv.trans hv'.symm

/-- The value claim. -/
theorem algebraic : Cert.algebraic_KernelIdeal_ReferenceIdeal := by
  intro m g m' g' _ hargs
  refine ⟨fun c => W4 m c (dr Cert.KernelIdeal.main_v3), ?_, ?_⟩
  · exact (θ_run Cert.KernelIdeal.defs _ _).mono
      (fun r h c => ⟨h.1 c (dr Cert.KernelIdeal.main_v3) (mem_bufs Cert.KernelIdeal.main_v3 rfl), args_kept m r h c⟩) (run_main m g)
  · refine (θ_run Cert.ReferenceIdeal.defs _ _).mono (fun r h c => ?_) (Ref.run_main m' g')
    obtain ⟨e0, e1, e2, e3, e4⟩ := hargs c
    obtain ⟨k0, k1, k2, k3, k4⟩ := Ref.args_eq (StableHlo.launchContents m' c)
    refine ⟨(h c _).trans ((Ref.out_eq (StableHlo.launchContents m' c)).trans
        (results_agree m c _ _ _ _ _ e0 e1 e2 e3 e4)),
      (h c _).trans k0, (h c _).trans k1, (h c _).trans k2, (h c _).trans k3, (h c _).trans k4⟩

end Cert.Proof

end
-- ==== Proof.lean ====
/- The proof of the certificate's claim: each part from the module that proves it. -/
module

public import proofs.«01_k».proof.Defs
public import proofs.«01_k».proof.Proof.Algebraic

@[expose] public section

noncomputable section

namespace Cert.Proof

open Idealize.ShloMosaic Idealize.SL.Sem Cert.Kernel

/-- What the statement certifies. -/
theorem claim : Cert.Claim :=
  ⟨Cert.Kernel.Gen.facts, Cert.KernelIdeal.Gen.facts, Cert.ReferenceIdeal.Gen.facts,
    frame_printed, frame_ideal, frame_reference, trivial, algebraic⟩

end Cert.Proof

end
